-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v229) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x112x112 : Shape := ⟨4, ![32, 64, 112, 112]⟩
abbrev S128x64x3x3 : Shape := ⟨4, ![128, 64, 3, 3]⟩
abbrev S128 : Shape := ⟨1, ![128]⟩
abbrev S16 : Shape := ⟨1, ![16]⟩
abbrev S3x3x128x64 : Shape := ⟨4, ![3, 3, 128, 64]⟩
abbrev S9x128x64 : Shape := ⟨3, ![9, 128, 64]⟩
abbrev S256 : Shape := ⟨1, ![256]⟩
abbrev S256x1 : Shape := ⟨2, ![256, 1]⟩
abbrev S1x16 : Shape := ⟨2, ![1, 16]⟩
abbrev S256x577 : Shape := ⟨2, ![256, 577]⟩
abbrev S1x9x128x64 : Shape := ⟨4, ![1, 9, 128, 64]⟩
abbrev S1 : Shape := ⟨1, ![1]⟩
abbrev S1x1x1x1 : Shape := ⟨4, ![1, 1, 1, 1]⟩
abbrev S1x1 : Shape := ⟨2, ![1, 1]⟩
abbrev S1x128x64 : Shape := ⟨3, ![1, 128, 64]⟩
abbrev S128x64 : Shape := ⟨2, ![128, 64]⟩
abbrev S128x192 : Shape := ⟨2, ![128, 192]⟩
abbrev S256x192 : Shape := ⟨2, ![256, 192]⟩
abbrev S32x128x12544 : Shape := ⟨3, ![32, 128, 12544]⟩
abbrev S1x64x112x112 : Shape := ⟨4, ![1, 64, 112, 112]⟩
abbrev S1x128x6272 : Shape := ⟨3, ![1, 128, 6272]⟩
abbrev S64x117x128 : Shape := ⟨3, ![64, 117, 128]⟩
abbrev S64x112x112 : Shape := ⟨3, ![64, 112, 112]⟩
abbrev S64x59x128 : Shape := ⟨3, ![64, 59, 128]⟩
abbrev S64x7552 : Shape := ⟨2, ![64, 7552]⟩
abbrev S64x7424 : Shape := ⟨2, ![64, 7424]⟩
abbrev S64x7168 : Shape := ⟨2, ![64, 7168]⟩
abbrev S1x7168 : Shape := ⟨2, ![1, 7168]⟩
abbrev S577x7168 : Shape := ⟨2, ![577, 7168]⟩
abbrev S256x7168 : Shape := ⟨2, ![256, 7168]⟩
abbrev S256x112 : Shape := ⟨2, ![256, 112]⟩
abbrev S256x6272 : Shape := ⟨2, ![256, 6272]⟩
abbrev S128x6272 : Shape := ⟨2, ![128, 6272]⟩
abbrev S32x128x112x112 : Shape := ⟨4, ![32, 128, 112, 112]⟩

abbrev nBuf : Space → Nat
  | .hbm => 15
  | .vmem => 12
  | .smem => 0
  | _ => 0

abbrev bufTy : (tb : Table) → Fin (tcTables nBuf tb) → BufTy
  | .hbm, ⟨0, _⟩ => ⟨S32x64x112x112, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S16, .f32⟩
  | .hbm, ⟨5, _⟩ => ⟨S3x3x128x64, .f32⟩
  | .hbm, ⟨6, _⟩ => ⟨S9x128x64, .f32⟩
  | .hbm, ⟨7, _⟩ => ⟨S256, .f32⟩
  | .hbm, ⟨8, _⟩ => ⟨S256x1, .f32⟩
  | .hbm, ⟨9, _⟩ => ⟨S1x16, .f32⟩
  | .hbm, ⟨10, _⟩ => ⟨S256x577, .bf16⟩
  | .hbm, ⟨11, _⟩ => ⟨S32x128x12544, .f32⟩
  | .hbm, ⟨12, _⟩ => ⟨S32x128x12544, .f32⟩
  | .hbm, ⟨13, _⟩ => ⟨S32x128x112x112, .f32⟩
  | .hbm, ⟨14, _⟩ => ⟨S32x128x112x112, .f32⟩
  | .local _ .vmem, ⟨0, _⟩ => ⟨S9x128x64, .f32⟩
  | .local _ .vmem, ⟨1, _⟩ => ⟨S1x16, .f32⟩
  | .local _ .vmem, ⟨2, _⟩ => ⟨S256x1, .f32⟩
  | .local _ .vmem, ⟨3, _⟩ => ⟨S256x577, .bf16⟩
  | .local _ .vmem, ⟨4, _⟩ => ⟨S256x577, .bf16⟩
  | .local _ .vmem, ⟨5, _⟩ => ⟨S1x64x112x112, .f32⟩
  | .local _ .vmem, ⟨6, _⟩ => ⟨S1x64x112x112, .f32⟩
  | .local _ .vmem, ⟨7, _⟩ => ⟨S1x128x6272, .f32⟩
  | .local _ .vmem, ⟨8, _⟩ => ⟨S1x128x6272, .f32⟩
  | .local _ .vmem, ⟨9, _⟩ => ⟨S1x128x6272, .f32⟩
  | .local _ .vmem, ⟨10, _⟩ => ⟨S1x128x6272, .f32⟩
  | .local _ .vmem, ⟨11, _⟩ => ⟨S64x117x128, .f32⟩
  | _, _ => ⟨S32x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := .none

abbrev stage0_0 : Fin 1 → Memref sig .tc .vmem S9x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x577 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![32, 2], ![false, false]⟩

def k1_off1 (i : grid1.Coords) : Fin 3 → Nat :=
  let c0 : Index := 0#32
  let arg1 : BitVec 32 := BitVec.ofNat 32 (i 1).val
  let c56_i32 : BitVec 32 := 56#32
  let v8 : BitVec 32 := Scalar.muli arg1 c56_i32
  let v9 : Index := Scalar.indexCast v8
  let c0_4 : Index := 0#32
  ![0, v9.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S256x577 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x64x112x112 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x6272 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x6272 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S32x64x112x112 : Shape := ⟨4, ![32, 64, 112, 112]⟩
abbrev S128x64x3x3 : Shape := ⟨4, ![128, 64, 3, 3]⟩
abbrev S128 : Shape := ⟨1, ![128]⟩
abbrev S16 : Shape := ⟨1, ![16]⟩
abbrev S_ : Shape := ⟨0, ![]⟩
abbrev S32x64x114x114 : Shape := ⟨4, ![32, 64, 114, 114]⟩
abbrev S128x64x1x1 : Shape := ⟨4, ![128, 64, 1, 1]⟩
abbrev S128x64 : Shape := ⟨2, ![128, 64]⟩
abbrev S32x112x112x128 : Shape := ⟨4, ![32, 112, 112, 128]⟩
abbrev S32x128x112x112 : Shape := ⟨4, ![32, 128, 112, 112]⟩
abbrev S1x128x1x1 : Shape := ⟨4, ![1, 128, 1, 1]⟩
abbrev S1 : Shape := ⟨1, ![1]⟩

abbrev nBuf : Space → Nat
  | .hbm => 274
  | .vmem => 0
  | .smem => 0
  | _ => 0

abbrev hbmTy0_0 (i : Nat) : BufTy := match i % 128 with
  | 0 => ⟨S32x64x112x112, .f32⟩
  | 1 => ⟨S128x64x3x3, .f32⟩
  | 2 => ⟨S128, .f32⟩
  | 3 => ⟨S128, .f32⟩
  | 4 => ⟨S16, .f32⟩
  | 5 => ⟨S_, .i32⟩
  | 6 => ⟨S_, .f32⟩
  | 7 => ⟨S32x64x114x114, .f32⟩
  | 8 => ⟨S128x64x1x1, .f32⟩
  | 9 => ⟨S128x64, .f32⟩
  | 10 => ⟨S32x64x112x112, .f32⟩
  | 11 => ⟨S32x112x112x128, .f32⟩
  | 12 => ⟨S32x128x112x112, .f32⟩
  | 13 => ⟨S128x64x1x1, .f32⟩
  | 14 => ⟨S128x64, .f32⟩
  | 15 => ⟨S32x64x112x112, .f32⟩
  | 16 => ⟨S32x112x112x128, .f32⟩
  | 17 => ⟨S32x128x112x112, .f32⟩
  | 18 => ⟨S32x128x112x112, .f32⟩
  | 19 => ⟨S128x64x1x1, .f32⟩
  | 20 => ⟨S128x64, .f32⟩
  | 21 => ⟨S32x64x112x112, .f32⟩
  | 22 => ⟨S32x112x112x128, .f32⟩
  | 23 => ⟨S32x128x112x112, .f32⟩
  | 24 => ⟨S32x128x112x112, .f32⟩
  | 25 => ⟨S128x64x1x1, .f32⟩
  | 26 => ⟨S128x64, .f32⟩
  | 27 => ⟨S32x64x112x112, .f32⟩
  | 28 => ⟨S32x112x112x128, .f32⟩
  | 29 => ⟨S32x128x112x112, .f32⟩
  | 30 => ⟨S32x128x112x112, .f32⟩
  | 31 => ⟨S128x64x1x1, .f32⟩
  | 32 => ⟨S128x64, .f32⟩
  | 33 => ⟨S32x64x112x112, .f32⟩
  | 34 => ⟨S32x112x112x128, .f32⟩
  | 35 => ⟨S32x128x112x112, .f32⟩
  | 36 => ⟨S32x128x112x112, .f32⟩
  | 37 => ⟨S128x64x1x1, .f32⟩
  | 38 => ⟨S128x64, .f32⟩
  | 39 => ⟨S32x64x112x112, .f32⟩
  | 40 => ⟨S32x112x112x128, .f32⟩
  | 41 => ⟨S32x128x112x112, .f32⟩
  | 42 => ⟨S32x128x112x112, .f32⟩
  | 43 => ⟨S128x64x1x1, .f32⟩
  | 44 => ⟨S128x64, .f32⟩
  | 45 => ⟨S32x64x112x112, .f32⟩
  | 46 => ⟨S32x112x112x128, .f32⟩
  | 47 => ⟨S32x128x112x112, .f32⟩
  | 48 => ⟨S32x128x112x112, .f32⟩
  | 49 => ⟨S128x64x1x1, .f32⟩
  | 50 => ⟨S128x64, .f32⟩
  | 51 => ⟨S32x64x112x112, .f32⟩
  | 52 => ⟨S32x112x112x128, .f32⟩
  | 53 => ⟨S32x128x112x112, .f32⟩
  | 54 => ⟨S32x128x112x112, .f32⟩
  | 55 => ⟨S128x64x1x1, .f32⟩
  | 56 => ⟨S128x64, .f32⟩
  | 57 => ⟨S32x64x112x112, .f32⟩
  | 58 => ⟨S32x112x112x128, .f32⟩
  | 59 => ⟨S32x128x112x112, .f32⟩
  | 60 => ⟨S32x128x112x112, .f32⟩
  | 61 => ⟨S1x128x1x1, .f32⟩
  | 62 => ⟨S32x128x112x112, .f32⟩
  | 63 => ⟨S32x128x112x112, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S128x64x3x3, .f32⟩
  | 75 => ⟨S128x64x3x3, .i1⟩
  | 76 => ⟨S1, .f32⟩
  | 77 => ⟨S_, .f32⟩
  | 78 => ⟨S128x64x3x3, .f32⟩
  | 79 => ⟨S128x64x3x3, .f32⟩
  | 80 => ⟨S_, .f32⟩
  | 81 => ⟨S_, .f32⟩
  | 82 => ⟨S_, .f32⟩
  | 83 => ⟨S128x64x3x3, .f32⟩
  | 84 => ⟨S128x64x3x3, .i1⟩
  | 85 => ⟨S1, .f32⟩
  | 86 => ⟨S_, .f32⟩
  | 87 => ⟨S128x64x3x3, .f32⟩
  | 88 => ⟨S128x64x3x3, .f32⟩
  | 89 => ⟨S_, .f32⟩
  | 90 => ⟨S_, .f32⟩
  | 91 => ⟨S_, .f32⟩
  | 92 => ⟨S128x64x3x3, .f32⟩
  | 93 => ⟨S128x64x3x3, .i1⟩
  | 94 => ⟨S1, .f32⟩
  | 95 => ⟨S_, .f32⟩
  | 96 => ⟨S128x64x3x3, .f32⟩
  | 97 => ⟨S128x64x3x3, .f32⟩
  | 98 => ⟨S_, .f32⟩
  | 99 => ⟨S_, .f32⟩
  | 100 => ⟨S_, .f32⟩
  | 101 => ⟨S128x64x3x3, .f32⟩
  | 102 => ⟨S128x64x3x3, .i1⟩
  | 103 => ⟨S1, .f32⟩
  | 104 => ⟨S_, .f32⟩
  | 105 => ⟨S128x64x3x3, .f32⟩
  | 106 => ⟨S128x64x3x3, .f32⟩
  | 107 => ⟨S_, .f32⟩
  | 108 => ⟨S_, .f32⟩
  | 109 => ⟨S_, .f32⟩
  | 110 => ⟨S128x64x3x3, .f32⟩
  | 111 => ⟨S128x64x3x3, .i1⟩
  | 112 => ⟨S1, .f32⟩
  | 113 => ⟨S_, .f32⟩
  | 114 => ⟨S128x64x3x3, .f32⟩
  | 115 => ⟨S128x64x3x3, .f32⟩
  | 116 => ⟨S_, .f32⟩
  | 117 => ⟨S_, .f32⟩
  | 118 => ⟨S_, .f32⟩
  | 119 => ⟨S128x64x3x3, .f32⟩
  | 120 => ⟨S128x64x3x3, .i1⟩
  | 121 => ⟨S1, .f32⟩
  | 122 => ⟨S_, .f32⟩
  | 123 => ⟨S128x64x3x3, .f32⟩
  | 124 => ⟨S128x64x3x3, .f32⟩
  | 125 => ⟨S_, .f32⟩
  | 126 => ⟨S_, .f32⟩
  | 127 => ⟨S_, .f32⟩
  | _ => ⟨S32x64x112x112, .f32⟩

abbrev hbmTy0_1 (i : Nat) : BufTy := match i % 128 with
  | 0 => ⟨S128x64x3x3, .f32⟩
  | 1 => ⟨S128x64x3x3, .i1⟩
  | 2 => ⟨S1, .f32⟩
  | 3 => ⟨S_, .f32⟩
  | 4 => ⟨S128x64x3x3, .f32⟩
  | 5 => ⟨S128x64x3x3, .f32⟩
  | 6 => ⟨S_, .f32⟩
  | 7 => ⟨S_, .f32⟩
  | 8 => ⟨S_, .f32⟩
  | 9 => ⟨S128x64x3x3, .f32⟩
  | 10 => ⟨S128x64x3x3, .i1⟩
  | 11 => ⟨S1, .f32⟩
  | 12 => ⟨S_, .f32⟩
  | 13 => ⟨S128x64x3x3, .f32⟩
  | 14 => ⟨S128x64x3x3, .f32⟩
  | 15 => ⟨S_, .f32⟩
  | 16 => ⟨S_, .f32⟩
  | 17 => ⟨S_, .f32⟩
  | 18 => ⟨S128x64x3x3, .f32⟩
  | 19 => ⟨S128x64x3x3, .i1⟩
  | 20 => ⟨S1, .f32⟩
  | 21 => ⟨S_, .f32⟩
  | 22 => ⟨S128x64x3x3, .f32⟩
  | 23 => ⟨S128x64x3x3, .f32⟩
  | 24 => ⟨S_, .f32⟩
  | 25 => ⟨S_, .f32⟩
  | 26 => ⟨S_, .f32⟩
  | 27 => ⟨S128x64x3x3, .f32⟩
  | 28 => ⟨S128x64x3x3, .i1⟩
  | 29 => ⟨S1, .f32⟩
  | 30 => ⟨S_, .f32⟩
  | 31 => ⟨S128x64x3x3, .f32⟩
  | 32 => ⟨S128x64x3x3, .f32⟩
  | 33 => ⟨S_, .f32⟩
  | 34 => ⟨S_, .f32⟩
  | 35 => ⟨S_, .f32⟩
  | 36 => ⟨S128x64x3x3, .f32⟩
  | 37 => ⟨S128x64x3x3, .i1⟩
  | 38 => ⟨S1, .f32⟩
  | 39 => ⟨S_, .f32⟩
  | 40 => ⟨S128x64x3x3, .f32⟩
  | 41 => ⟨S128x64x3x3, .f32⟩
  | 42 => ⟨S_, .f32⟩
  | 43 => ⟨S_, .f32⟩
  | 44 => ⟨S_, .f32⟩
  | 45 => ⟨S128x64x3x3, .f32⟩
  | 46 => ⟨S128x64x3x3, .i1⟩
  | 47 => ⟨S1, .f32⟩
  | 48 => ⟨S_, .f32⟩
  | 49 => ⟨S128x64x3x3, .f32⟩
  | 50 => ⟨S128x64x3x3, .f32⟩
  | 51 => ⟨S_, .f32⟩
  | 52 => ⟨S_, .f32⟩
  | 53 => ⟨S_, .f32⟩
  | 54 => ⟨S128x64x3x3, .f32⟩
  | 55 => ⟨S128x64x3x3, .i1⟩
  | 56 => ⟨S1, .f32⟩
  | 57 => ⟨S_, .f32⟩
  | 58 => ⟨S128x64x3x3, .f32⟩
  | 59 => ⟨S128x64x3x3, .f32⟩
  | 60 => ⟨S_, .f32⟩
  | 61 => ⟨S_, .f32⟩
  | 62 => ⟨S_, .f32⟩
  | 63 => ⟨S128x64x3x3, .f32⟩
  | 64 => ⟨S128x64x3x3, .i1⟩
  | 65 => ⟨S1, .f32⟩
  | 66 => ⟨S_, .f32⟩
  | 67 => ⟨S128x64x3x3, .f32⟩
  | 68 => ⟨S128x64x3x3, .f32⟩
  | 69 => ⟨S_, .f32⟩
  | 70 => ⟨S_, .f32⟩
  | 71 => ⟨S_, .f32⟩
  | 72 => ⟨S128x64x3x3, .f32⟩
  | 73 => ⟨S128x64x3x3, .i1⟩
  | 74 => ⟨S1, .f32⟩
  | 75 => ⟨S_, .f32⟩
  | 76 => ⟨S128x64x3x3, .f32⟩
  | 77 => ⟨S128x64x3x3, .f32⟩
  | 78 => ⟨S_, .f32⟩
  | 79 => ⟨S_, .f32⟩
  | 80 => ⟨S_, .f32⟩
  | 81 => ⟨S128x64x3x3, .f32⟩
  | 82 => ⟨S128x64x3x3, .i1⟩
  | 83 => ⟨S1, .f32⟩
  | 84 => ⟨S_, .f32⟩
  | 85 => ⟨S128x64x3x3, .f32⟩
  | 86 => ⟨S128x64x3x3, .f32⟩
  | 87 => ⟨S_, .i32⟩
  | 88 => ⟨S_, .f32⟩
  | 89 => ⟨S32x64x114x114, .f32⟩
  | 90 => ⟨S128x64x1x1, .f32⟩
  | 91 => ⟨S128x64, .f32⟩
  | 92 => ⟨S32x64x112x112, .f32⟩
  | 93 => ⟨S32x112x112x128, .f32⟩
  | 94 => ⟨S32x128x112x112, .f32⟩
  | 95 => ⟨S128x64x1x1, .f32⟩
  | 96 => ⟨S128x64, .f32⟩
  | 97 => ⟨S32x64x112x112, .f32⟩
  | 98 => ⟨S32x112x112x128, .f32⟩
  | 99 => ⟨S32x128x112x112, .f32⟩
  | 100 => ⟨S32x128x112x112, .f32⟩
  | 101 => ⟨S128x64x1x1, .f32⟩
  | 102 => ⟨S128x64, .f32⟩
  | 103 => ⟨S32x64x112x112, .f32⟩
  | 104 => ⟨S32x112x112x128, .f32⟩
  | 105 => ⟨S32x128x112x112, .f32⟩
  | 106 => ⟨S32x128x112x112, .f32⟩
  | 107 => ⟨S128x64x1x1, .f32⟩
  | 108 => ⟨S128x64, .f32⟩
  | 109 => ⟨S32x64x112x112, .f32⟩
  | 110 => ⟨S32x112x112x128, .f32⟩
  | 111 => ⟨S32x128x112x112, .f32⟩
  | 112 => ⟨S32x128x112x112, .f32⟩
  | 113 => ⟨S128x64x1x1, .f32⟩
  | 114 => ⟨S128x64, .f32⟩
  | 115 => ⟨S32x64x112x112, .f32⟩
  | 116 => ⟨S32x112x112x128, .f32⟩
  | 117 => ⟨S32x128x112x112, .f32⟩
  | 118 => ⟨S32x128x112x112, .f32⟩
  | 119 => ⟨S128x64x1x1, .f32⟩
  | 120 => ⟨S128x64, .f32⟩
  | 121 => ⟨S32x64x112x112, .f32⟩
  | 122 => ⟨S32x112x112x128, .f32⟩
  | 123 => ⟨S32x128x112x112, .f32⟩
  | 124 => ⟨S32x128x112x112, .f32⟩
  | 125 => ⟨S128x64x1x1, .f32⟩
  | 126 => ⟨S128x64, .f32⟩
  | 127 => ⟨S32x64x112x112, .f32⟩
  | _ => ⟨S32x64x112x112, .f32⟩

abbrev hbmTy0_2 (i : Nat) : BufTy := match i % 128 with
  | 0 => ⟨S32x112x112x128, .f32⟩
  | 1 => ⟨S32x128x112x112, .f32⟩
  | 2 => ⟨S32x128x112x112, .f32⟩
  | 3 => ⟨S128x64x1x1, .f32⟩
  | 4 => ⟨S128x64, .f32⟩
  | 5 => ⟨S32x64x112x112, .f32⟩
  | 6 => ⟨S32x112x112x128, .f32⟩
  | 7 => ⟨S32x128x112x112, .f32⟩
  | 8 => ⟨S32x128x112x112, .f32⟩
  | 9 => ⟨S128x64x1x1, .f32⟩
  | 10 => ⟨S128x64, .f32⟩
  | 11 => ⟨S32x64x112x112, .f32⟩
  | 12 => ⟨S32x112x112x128, .f32⟩
  | 13 => ⟨S32x128x112x112, .f32⟩
  | 14 => ⟨S32x128x112x112, .f32⟩
  | 15 => ⟨S1x128x1x1, .f32⟩
  | 16 => ⟨S32x128x112x112, .f32⟩
  | 17 => ⟨S32x128x112x112, .f32⟩
  | _ => ⟨S32x64x112x112, .f32⟩

abbrev hbmTy (i : Nat) : BufTy := match i / 128 with
  | 0 => hbmTy0_0 i
  | 1 => hbmTy0_1 i
  | 2 => hbmTy0_2 i
  | _ => ⟨S32x64x112x112, .f32⟩

abbrev bufTy : (tb : Table) → Fin (tcTables nBuf tb) → BufTy
  | .hbm, ⟨i, _⟩ => hbmTy i
  | _, _ => ⟨S32x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst : Ref sig .tc := ⟨.hbm, 64, rfl⟩
abbrev main_v57 : Ref sig .tc := ⟨.hbm, 65, rfl⟩
abbrev main_cst_0 : Ref sig .tc := ⟨.hbm, 66, rfl⟩
abbrev main_v58 : Ref sig .tc := ⟨.hbm, 67, rfl⟩
abbrev main_v59 : Ref sig .tc := ⟨.hbm, 68, rfl⟩
abbrev main_cst_1 : Ref sig .tc := ⟨.hbm, 69, rfl⟩
abbrev main_v60 : Ref sig .tc := ⟨.hbm, 70, rfl⟩
abbrev main_cst_2 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_call1_v0 : Ref sig .tc := ⟨.hbm, 78, rfl⟩
abbrev main_v67 : Ref sig .tc := ⟨.hbm, 79, rfl⟩
abbrev main_cst_3 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_call2_v0 : Ref sig .tc := ⟨.hbm, 87, rfl⟩
abbrev main_v74 : Ref sig .tc := ⟨.hbm, 88, rfl⟩
abbrev main_cst_4 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_call3_v0 : Ref sig .tc := ⟨.hbm, 96, rfl⟩
abbrev main_v81 : Ref sig .tc := ⟨.hbm, 97, rfl⟩
abbrev main_cst_5 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_call4_v0 : Ref sig .tc := ⟨.hbm, 105, rfl⟩
abbrev main_v88 : Ref sig .tc := ⟨.hbm, 106, rfl⟩
abbrev main_cst_6 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_call5_v0 : Ref sig .tc := ⟨.hbm, 114, rfl⟩
abbrev main_v95 : Ref sig .tc := ⟨.hbm, 115, rfl⟩
abbrev main_cst_7 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_call6_v0 : Ref sig .tc := ⟨.hbm, 123, rfl⟩
abbrev main_v102 : Ref sig .tc := ⟨.hbm, 124, rfl⟩
abbrev main_cst_8 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_call7_v0 : Ref sig .tc := ⟨.hbm, 132, rfl⟩
abbrev main_v109 : Ref sig .tc := ⟨.hbm, 133, rfl⟩
abbrev main_cst_9 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_call8_v0 : Ref sig .tc := ⟨.hbm, 141, rfl⟩
abbrev main_v116 : Ref sig .tc := ⟨.hbm, 142, rfl⟩
abbrev main_cst_10 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_call9_v0 : Ref sig .tc := ⟨.hbm, 150, rfl⟩
abbrev main_v123 : Ref sig .tc := ⟨.hbm, 151, rfl⟩
abbrev main_cst_11 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_call10_v0 : Ref sig .tc := ⟨.hbm, 159, rfl⟩
abbrev main_v130 : Ref sig .tc := ⟨.hbm, 160, rfl⟩
abbrev main_cst_12 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_call11_v0 : Ref sig .tc := ⟨.hbm, 168, rfl⟩
abbrev main_v137 : Ref sig .tc := ⟨.hbm, 169, rfl⟩
abbrev main_cst_13 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_call12_v0 : Ref sig .tc := ⟨.hbm, 177, rfl⟩
abbrev main_v144 : Ref sig .tc := ⟨.hbm, 178, rfl⟩
abbrev main_cst_14 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_call13_v0 : Ref sig .tc := ⟨.hbm, 186, rfl⟩
abbrev main_v151 : Ref sig .tc := ⟨.hbm, 187, rfl⟩
abbrev main_cst_15 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_call14_v0 : Ref sig .tc := ⟨.hbm, 195, rfl⟩
abbrev main_v158 : Ref sig .tc := ⟨.hbm, 196, rfl⟩
abbrev main_cst_16 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_call15_v0 : Ref sig .tc := ⟨.hbm, 204, rfl⟩
abbrev main_v165 : Ref sig .tc := ⟨.hbm, 205, rfl⟩
abbrev main_cst_17 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_call16_v0 : Ref sig .tc := ⟨.hbm, 213, rfl⟩
abbrev main_v172 : Ref sig .tc := ⟨.hbm, 214, rfl⟩
abbrev main_c_18 : Ref sig .tc := ⟨.hbm, 215, rfl⟩
abbrev main_call17_v0 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩

abbrev nD : Nat := 1
abbrev τ : Topo := Topo.v7x

variable {F : FTy → Type} [FloatOps F]
-- ==== Proof.ConvBody.lean ====
/-
  The body of the convolution call at one grid point, run once for each of the three ways its two tests can go.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionArraysS
public import Idealize.ShloMosaic.Lib.Tactic
public import Idealize.ShloMosaic.Lib.Pipeline.Value

@[expose] public section

set_option maxRecDepth 16384

noncomputable section

namespace Cert.KernelIdeal.Conv

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the whole program needs beside memory: the pipeline library's and the transfer counters'. -/
abbrev UU : Type := UR sig nD τ × Counters

local notation "𝕄" => MT nD τ sig Unit (Elt F) ℕ UU ℕ

/-- The contents of a memref's buffer on core `c`. -/
abbrev Bf (c : Dev nD) {sp : Space} {S : Shape} {e : EltTy} (M : Memref sig .tc sp S e) : Type := Buf (Elt F) (M.view.loc (c : Thread nD τ))

/-- A memref's buffer on core `c` held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The word of the test that guards the clearing of the padded image: both grid coordinates are zero. -/
abbrev clears (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The word of the test that guards the copy of the image: the second grid coordinate is zero. -/
abbrev copies (i : grid1.Coords) : BitVec 1 :=
  Scalar.cmpi .ne (Scalar.extui (Scalar.cmpi .eq (BitVec.ofNat 32 (i 1).val) 0#32) : BitVec 32) 0#32

section

variable (c : Dev nD) (i : grid1.Coords)
  (M2 : Memref sig .tc .vmem S256x577 .bf16) (h2 : M2.IsWhole) (M3 : Memref sig .tc .vmem S1x64x112x112 .f32) (h3 : M3.IsWhole)
  (M4 : Memref sig .tc .vmem S1x128x6272 .f32) (h4 : M4.IsWhole) (M5 : Memref sig .tc .vmem S1x128x6272 .f32) (h5 : M5.IsWhole)
  (M6 : Memref sig .tc .vmem S64x117x128 .f32) (h6 : M6.IsWhole)
  (f2 : Bf (F := F) c M2) (f3 : Bf (F := F) c M3) (f6 : Bf (F := F) c M6)

/-- What a run of the body leaves: the two result blocks and the padded image. -/
abbrev Left : Type := Bf (F := F) c M4 × Bf (F := F) c M5 × Bf (F := F) c M6

/-- From the two operands, the two result blocks and the padded image held whole, the body runs to its return and leaves `W`. -/
def RunsTo (W : Left (F := F) c M4 M5 M6) : Prop :=
  ∀ (f4 : Bf (F := F) c M4) (f5 : Bf (F := F) c M5) (E : Set ℕ) (Q : PUnit → sProp 𝕄),
    iprop(pt c M2 f2 ∗ pt c M3 f3 ∗ pt c M4 f4 ∗ pt c M5 f5 ∗ pt c M6 f6
        ∗ (iprop(pt c M2 f2 ∗ pt c M3 f3 ∗ pt c M4 W.1 ∗ pt c M5 W.2.1 ∗ pt c M6 W.2.2) -∗ Q ⟨⟩))
      ⊢ wp frame (wpE (defs₀ (F := F)) Variants.none c none) E (cc1_fused_hashed_conv i M2 h2 M3 h3 M4 h4 M5 h5 M6 h6) Q

/-- A point whose two tests fail: the padded image is read as it stands. -/
def runKeep (k1_h1 : ¬ clears i = 1#1) (k1_h2 : ¬ copies i = 1#1) :
    { W : Left (F := F) c M4 M5 M6 // RunsTo c i M2 h2 M3 h3 M4 h4 M5 h5 M6 h6 f2 f3 f6 W } := by
  refine ⟨⟨?_, ?_, ?_⟩, fun f4 f5 E Q => ?run⟩
  case run =>
    simp only [cc1_fused_hashed_conv_eq_skeleton]; unfold cc1_fused_hashed_conv_skel
    simp only [k1_part1_eq_skeleton, k1_part2_eq_skeleton]; unfold k1_part1_skel k1_part2_skel
    iintro ⟨H2, H3, H4, H5, H6, Hk⟩
    sl_exec!
    sl_step
    iapply Hk
    isplitl [H2]; · iexact H2
    isplitl [H3]; · iexact H3
    isplitl [H4]; · iexact H4
    isplitl [H5]; · iexact H5
    iexact H6

/-- A point that copies its image into the padded one and does not clear it first. -/
def runCopy (k1_h1 : ¬ clears i = 1#1) (k1_h2 : copies i = 1#1) :
    { W : Left (F := F) c M4 M5 M6 // RunsTo c i M2 h2 M3 h3 M4 h4 M5 h5 M6 h6 f2 f3 f6 W } := by
  refine ⟨⟨?_, ?_, ?_⟩, fun f4 f5 E Q => ?run⟩
  case run =>
    simp only [cc1_fused_hashed_conv_eq_skeleton]; unfold cc1_fused_hashed_conv_skel
    simp only [k1_part1_eq_skeleton, k1_part2_eq_skeleton]; unfold k1_part1_skel k1_part2_skel
    iintro ⟨H2, H3, H4, H5, H6, Hk⟩
    sl_exec!
    sl_step
    iapply Hk
    isplitl [H2]; · iexact H2
    isplitl [H3]; · iexact H3
    isplitl [H4]; · iexact H4
    isplitl [H5]; · iexact H5
    iexact H6

/-- A point that clears the padded image and then copies its image into it. -/
def runClear (k1_h1 : clears i = 1#1) (k1_h2 : copies i = 1#1) :
    { W : Left (F := F) c M4 M5 M6 // RunsTo c i M2 h2 M3 h3 M4 h4 M5 h5 M6 h6 f2 f3 f6 W } := by
  refine ⟨⟨?_, ?_, ?_⟩, fun f4 f5 E Q => ?run⟩
  case run =>
    simp only [cc1_fused_hashed_conv_eq_skeleton]; unfold cc1_fused_hashed_conv_skel
    simp only [k1_part1_eq_skeleton, k1_part2_eq_skeleton]; unfold k1_part1_skel k1_part2_skel
    iintro ⟨H2, H3, H4, H5, H6, Hk⟩
    sl_exec!
    sl_step
    iapply Hk
    isplitl [H2]; · iexact H2
    isplitl [H3]; · iexact H3
    isplitl [H4]; · iexact H4
    isplitl [H5]; · iexact H5
    iexact H6

/-! ### What a run leaves, in closed form -/

/-- The box of the padded image that the image itself fills. -/
abbrev inner : Rect S64x117x128 := Rect.unit (s := S64x117x128) ![0, 1, 1] S64x112x112.size inb_S64x117x128_S64x112x112_0_1_1

/-- The padded image: the image in its box, zero around it. -/
def padded (x : Vec F S1x64x112x112 .f32) : S64x117x128.Idx → Elt F .f32 :=
  inner.overlay (k1_pay1 (F := F)) (k1_pay2 x)

/-- The rows of a padded image that a point reads. -/
abbrev rows (i : grid1.Coords) (p : S64x117x128.Idx → Elt F .f32) : Vec F S64x59x128 .f32 :=
  View.ld p (Rect.unit (s := S64x117x128) (k1_off1 i) S64x59x128.size (k1_off1_inb i))

/-- The block of the first result that a point computes from the weights `a` and its rows `v`. -/
def rawBlock (v : Vec F S64x59x128 .f32) (a : Vec F S256x577 .bf16) : Vec F S1x128x6272 .f32 :=
  k1_pay17 (k1_pay3 v a) (k1_pay4 v a) (k1_pay5 v a) (k1_pay6 v a) (k1_pay7 v a) (k1_pay8 v a) (k1_pay9 v a)
    (k1_pay10 v a) (k1_pay11 v a) (k1_pay12 v a) (k1_pay13 v a) (k1_pay14 v a) (k1_pay15 v a)

/-- The block of the second result that a point computes from the weights `a` and its rows `v`. -/
def hashBlock (v : Vec F S64x59x128 .f32) (a : Vec F S256x577 .bf16) : Vec F S1x128x6272 .f32 :=
  k1_pay18 (k1_pay3 v a) (k1_pay4 v a) (k1_pay5 v a) (k1_pay6 v a) (k1_pay7 v a) (k1_pay8 v a) (k1_pay9 v a)
    (k1_pay10 v a) (k1_pay11 v a) (k1_pay12 v a) (k1_pay13 v a) (k1_pay14 v a) (k1_pay15 v a)

/-- A store through a box over known contents reads as those contents with the box overlaid. -/
theorem read_write_box {s : Shape} {e : EltTy} {sp : Space} (v : View sig .tc sp s e) (f : v.ty.Contents (Elt F)) (r : Rect s) (w : r.shape.Idx → Elt F e) :
    v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (r.overlay_emb _ _ x).symm
  · exact (View.read_writes_apply_of_forall_not_mem v f y _ (by simpa using hy)).trans (r.overlay_of_not_mem _ _ hy).symm

/-- Overlaying a box twice leaves the second overlay. -/
theorem overlay_overlay {s : Shape} {e : EltTy} (r : Rect s) (p : s.Idx → Elt F e) (w w' : r.shape.Idx → Elt F e) :
    r.overlay (r.overlay p w) w' = r.overlay p w' := by
  funext y
  by_cases hy : y ∈ r.set
  · obtain ⟨x, rfl⟩ := r.exists_idx_of_mem hy
    exact (r.overlay_emb _ _ x).trans (r.overlay_emb _ _ x).symm
  · rw [r.overlay_of_not_mem _ _ hy, r.overlay_of_not_mem _ _ hy, r.overlay_of_not_mem _ _ hy]

/-- What a run leaves reads as the two blocks over the padded image, and as the padded image itself. -/
structure Leaves (W : Left (F := F) c M4 M5 M6) : Prop where
  raw : M4.view.read (Elt F) W.1 = rawBlock (rows i (padded (M3.view.read (Elt F) f3))) (M2.view.read (Elt F) f2)
  hash : M5.view.read (Elt F) W.2.1 = hashBlock (rows i (padded (M3.view.read (Elt F) f3))) (M2.view.read (Elt F) f2)
  pad : M6.view.read (Elt F) W.2.2 = padded (M3.view.read (Elt F) f3)

/-- The contents a keeping point leaves, as lists of stores. -/
theorem runKeep_left (k1_h1 : ¬ clears i = 1#1) (k1_h2 : ¬ copies i = 1#1) :
    (runKeep (F := F) c i M2 h2 M3 h3 M4 h4 M5 h5 M6 h6 f2 f3 f6 k1_h1 k1_h2).1
      = (M4.view.writes (Elt F) M4.view.junk (runKeep.sl.H4_1 c i M2 M6 f2 f6), M5.view.writes (Elt F) M5.view.junk (runKeep.sl.H5_1 c i M2 M6 f2 f6), f6) := by
  dsimp only [runKeep]

/-- The contents a copying point leaves, as lists of stores. -/
theorem runCopy_left (k1_h1 : ¬ clears i = 1#1) (k1_h2 : copies i = 1#1) :
    (runCopy (F := F) c i M2 h2 M3 h3 M4 h4 M5 h5 M6 h6 f2 f3 f6 k1_h1 k1_h2).1
      = (M4.view.writes (Elt F) M4.view.junk (runCopy.sl.H4_1 c i M2 M3 M6 f2 f3 f6), M5.view.writes (Elt F) M5.view.junk (runCopy.sl.H5_1 c i M2 M3 M6 f2 f3 f6), M6.view.writes (Elt F) f6 (runCopy.sl.H6_1 c M3 f3)) := by
  dsimp only [runCopy]

/-- The contents a clearing point leaves, as lists of stores. -/
theorem runClear_left (k1_h1 : clears i = 1#1) (k1_h2 : copies i = 1#1) :
    (runClear (F := F) c i M2 h2 M3 h3 M4 h4 M5 h5 M6 h6 f2 f3 f6 k1_h1 k1_h2).1
      = (M4.view.writes (Elt F) M4.view.junk (runClear.sl.H4_1 c i M2 M3 M6 f2 f3), M5.view.writes (Elt F) M5.view.junk (runClear.sl.H5_1 c i M2 M3 M6 f2 f3), M6.view.writes (Elt F) M6.view.junk (runClear.sl.H6_2 c M3 f3)) := by
  dsimp only [runClear]

/-- The zero offsets of a rank-3 load or store. -/
theorem zeros3 : (![0, 0, 0] : Fin 3 → ℕ) = fun _ => 0 := by funext a; fin_cases a <;> rfl

/-- The load of the weights reads the whole block. -/
theorem read_weights : View.readAt (Elt F) M2.view (Rect.unit (s := S256x577) ![0, 0] S256x577.size inb_S256x577_S256x577_0_0).toLoadRect f2 = M2.view.read (Elt F) f2 :=
  View.ld_unit_zero (by funext a; fin_cases a <;> rfl) _ _

/-- The load of the image reads the whole block. -/
theorem read_image : View.readAt (Elt F) M3.view (Rect.unit (s := S1x64x112x112) ![0, 0, 0, 0] S1x64x112x112.size inb_S1x64x112x112_S1x64x112x112_0_0_0_0).toLoadRect f3 = M3.view.read (Elt F) f3 :=
  View.ld_unit_zero (by funext a; fin_cases a <;> rfl) _ _

/-- A point that clears and copies leaves the blocks of its image. -/
theorem runClear_leaves (k1_h1 : clears i = 1#1) (k1_h2 : copies i = 1#1) :
    Leaves c i M2 M3 M4 M5 M6 f2 f3 (runClear (F := F) c i M2 h2 M3 h3 M4 h4 M5 h5 M6 h6 f2 f3 f6 k1_h1 k1_h2).1 := by
  rw [runClear_left]
  have hp : M6.view.read (Elt F) (M6.view.writes (Elt F) M6.view.junk (runClear.sl.H6_2 c M3 f3)) = padded (M3.view.read (Elt F) f3) := by
    rw [View.read_writes_junk_eq_canon]
    unfold runClear.sl.H6_2
    rw [View.canon_cons, View.canon_unit_zero zeros3, read_image c M3 f3]
    rfl
  refine ⟨?_, ?_, hp⟩
  · rw [View.read_writes_junk_eq_canon, ← hp]
    unfold runClear.sl.H4_1
    refine (View.canon_unit_zero zeros3 _ _).trans ?_
    dsimp only
    exact congrArg₂ rawBlock rfl (read_weights c M2 f2)
  · rw [View.read_writes_junk_eq_canon, ← hp]
    unfold runClear.sl.H5_1
    refine (View.canon_unit_zero zeros3 _ _).trans ?_
    dsimp only
    exact congrArg₂ hashBlock rfl (read_weights c M2 f2)

/-- A point that copies over an earlier image leaves the blocks of its own. -/
theorem runCopy_leaves (k1_h1 : ¬ clears i = 1#1) (k1_h2 : copies i = 1#1)
    (x : Vec F S1x64x112x112 .f32) (hx : M6.view.read (Elt F) f6 = padded x) :
    Leaves c i M2 M3 M4 M5 M6 f2 f3 (runCopy (F := F) c i M2 h2 M3 h3 M4 h4 M5 h5 M6 h6 f2 f3 f6 k1_h1 k1_h2).1 := by
  rw [runCopy_left]
  have hp : M6.view.read (Elt F) (M6.view.writes (Elt F) f6 (runCopy.sl.H6_1 c M3 f3)) = padded (M3.view.read (Elt F) f3) := by
    unfold runCopy.sl.H6_1
    refine (read_write_box _ _ _ _).trans ?_
    rw [hx, read_image c M3 f3]
    exact overlay_overlay (F := F) (e := .f32) inner _ _ _
  refine ⟨?_, ?_, hp⟩
  · rw [View.read_writes_junk_eq_canon, ← hp]
    unfold runCopy.sl.H4_1
    refine (View.canon_unit_zero zeros3 _ _).trans ?_
    dsimp only
    exact congrArg₂ rawBlock rfl (read_weights c M2 f2)
  · rw [View.read_writes_junk_eq_canon, ← hp]
    unfold runCopy.sl.H5_1
    refine (View.canon_unit_zero zeros3 _ _).trans ?_
    dsimp only
    exact congrArg₂ hashBlock rfl (read_weights c M2 f2)

/-- A point that finds its image in place leaves the blocks of it. -/
theorem runKeep_leaves (k1_h1 : ¬ clears i = 1#1) (k1_h2 : ¬ copies i = 1#1)
    (hp : M6.view.read (Elt F) f6 = padded (M3.view.read (Elt F) f3)) :
    Leaves c i M2 M3 M4 M5 M6 f2 f3 (runKeep (F := F) c i M2 h2 M3 h3 M4 h4 M5 h5 M6 h6 f2 f3 f6 k1_h1 k1_h2).1 := by
  rw [runKeep_left]
  refine ⟨?_, ?_, hp⟩
  · rw [View.read_writes_junk_eq_canon, ← hp]
    unfold runKeep.sl.H4_1
    refine (View.canon_unit_zero zeros3 _ _).trans ?_
    dsimp only
    exact congrArg₂ rawBlock rfl (read_weights c M2 f2)
  · rw [View.read_writes_junk_eq_canon, ← hp]
    unfold runKeep.sl.H5_1
    refine (View.canon_unit_zero zeros3 _ _).trans ?_
    dsimp only
    exact congrArg₂ hashBlock rfl (read_weights c M2 f2)

/-- Where the padded image already holds the point's image, or the point copies its image over an earlier one's, or the point
    clears and copies, the body runs and leaves the two blocks and the padded image. -/
theorem body_runs (hcc : clears i = 1#1 → copies i = 1#1)
    (hkeep : ¬ copies i = 1#1 → M6.view.read (Elt F) f6 = padded (M3.view.read (Elt F) f3))
    (hcopy : ¬ clears i = 1#1 → ∃ x, M6.view.read (Elt F) f6 = padded x) :
    ∃ W, RunsTo c i M2 h2 M3 h3 M4 h4 M5 h5 M6 h6 f2 f3 f6 W ∧ Leaves c i M2 M3 M4 M5 M6 f2 f3 W := by
  by_cases k1_h2 : copies i = 1#1
  · by_cases k1_h1 : clears i = 1#1
    · exact ⟨_, (runClear (F := F) c i M2 h2 M3 h3 M4 h4 M5 h5 M6 h6 f2 f3 f6 k1_h1 k1_h2).2, runClear_leaves ..⟩
    · obtain ⟨x, hx⟩ := hcopy k1_h1
      exact ⟨_, (runCopy (F := F) c i M2 h2 M3 h3 M4 h4 M5 h5 M6 h6 f2 f3 f6 k1_h1 k1_h2).2, runCopy_leaves (hx := hx) ..⟩
  · have k1_h1 : ¬ clears i = 1#1 := fun h => k1_h2 (hcc h)
    exact ⟨_, (runKeep (F := F) c i M2 h2 M3 h3 M4 h4 M5 h5 M6 h6 f2 f3 f6 k1_h1 k1_h2).2, runKeep_leaves (hp := hkeep k1_h2) ..⟩

end

end Cert.KernelIdeal.Conv

end
-- ==== Proof.HashBody.lean ====
/-
  The body of the hashing call: it runs at its one grid point and leaves the stacked weights as a function of its three operands.
-/
module

public import proofs.«01_k».proof.Proof.ConvBody

@[expose] public section

set_option maxRecDepth 16384

noncomputable section

namespace Cert.KernelIdeal.Hash

open Cert.KernelIdeal Cert.KernelIdeal.Gen Cert.KernelIdeal.Conv
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Every column of the table of hashed weights is inside it. -/
theorem column_inb (j : Fin 16) : ∀ a, (![0, j.val] : Fin 2 → Nat) a + S1x1.size a ≤ S1x16.size a := by
  intro a; fin_cases a
  · exact le_refl 1
  · exact j.isLt

/-- Column `j` of the table of hashed weights. -/
def column (h : Vec F S1x16 .f32) (j : Fin 16) : Vec F S1x1 .f32 :=
  View.ld h (Rect.unit (s := S1x16) ![0, j.val] S1x1.size (column_inb j))

/-- The weights after the first three levels. -/
def level3 (x : Vec F S9x128x64 .f32) (h : Vec F S1x16 .f32) : Vec F S9x128x64 .f32 :=
  k0_pay5 x (column h 0) (column h 1) (column h 2)

/-- The weights after the first nine levels. -/
def level9 (x : Vec F S9x128x64 .f32) (h : Vec F S1x16 .f32) : Vec F S9x128x64 .f32 :=
  k0_pay8 (k0_pay3 x) (k0_pay4 x) (level3 x h) (k0_pay6 x (column h 0) (column h 1) (column h 2)) (k0_pay7 (column h 3))
    (column h 4) (column h 5) (column h 6) (column h 7) (column h 8)

/-- The weights after the first fourteen levels. -/
def level14 (x : Vec F S9x128x64 .f32) (h : Vec F S1x16 .f32) : Vec F S9x128x64 .f32 :=
  k0_pay10 (k0_pay3 x) (k0_pay4 x) (level9 x h) (k0_pay9 (k0_pay3 x) (k0_pay4 x))
    (column h 9) (column h 10) (column h 11) (column h 12) (column h 13)

/-- Where the fifteenth level applies. -/
def over15 (x : Vec F S9x128x64 .f32) (h : Vec F S1x16 .f32) : IVec S9x128x64 1 :=
  k0_pay11 (k0_pay3 x) (k0_pay4 x) (level9 x h) (k0_pay9 (k0_pay3 x) (k0_pay4 x))
    (column h 9) (column h 10) (column h 11) (column h 12) (column h 13)

/-- The stacked weights: the raw and the hashed weights one above the other, the nine taps side by side, the biases last. -/
def stacked (x : Vec F S9x128x64 .f32) (h : Vec F S1x16 .f32) (b : Vec F S256x1 .f32) : Vec F S256x577 .bf16 :=
  k0_pay1
    (k0_pay13 (k0_pay2 x) (k0_pay3 x) (k0_pay4 x) (level14 x h) (over15 x h) (column h 14) (column h 15))
    (k0_pay14 (k0_pay2 x) (k0_pay3 x) (k0_pay4 x) (level14 x h) (over15 x h) (column h 14) (column h 15))
    (k0_pay15 (k0_pay2 x) (k0_pay3 x) (k0_pay4 x) (level14 x h) (over15 x h) (column h 14) (column h 15))
    b

section

variable (c : Dev nD)
  (M0 : Memref sig .tc .vmem S9x128x64 .f32) (h0 : M0.IsWhole) (M1 : Memref sig .tc .vmem S1x16 .f32) (h1 : M1.IsWhole)
  (M2 : Memref sig .tc .vmem S256x1 .f32) (h2 : M2.IsWhole) (M3 : Memref sig .tc .vmem S256x577 .bf16) (h3 : M3.IsWhole)
  (f0 : Bf (F := F) c M0) (f1 : Bf (F := F) c M1) (f2 : Bf (F := F) c M2)

/-- From the three operands and the result block held whole, the body runs to its return and leaves `W` in the result block. -/
def RunsTo (W : Bf (F := F) c M3) : Prop :=
  ∀ (f3 : Bf (F := F) c M3) (E : Set ℕ) (Q : PUnit → sProp 𝕄),
    iprop(pt c M0 f0 ∗ pt c M1 f1 ∗ pt c M2 f2 ∗ pt c M3 f3
        ∗ (iprop(pt c M0 f0 ∗ pt c M1 f1 ∗ pt c M2 f2 ∗ pt c M3 W) -∗ Q ⟨⟩))
      ⊢ wp frame (wpE (defs₀ (F := F)) Variants.none c none) E (cc0_hash_weights M0 h0 M1 h1 M2 h2 M3 h3) Q

/-- The body's run, with the contents it leaves. -/
def run : { W : Bf (F := F) c M3 // RunsTo c M0 h0 M1 h1 M2 h2 M3 h3 f0 f1 f2 W } := by
  refine ⟨?_, fun f3 E Q => ?run⟩
  case run =>
    simp only [cc0_hash_weights_eq_skeleton]; unfold cc0_hash_weights_skel
    simp only [k0_part1_eq_skeleton, k0_part2_eq_skeleton, k0_part3_eq_skeleton, k0_part4_eq_skeleton]
    unfold k0_part1_skel k0_part2_skel k0_part3_skel k0_part4_skel
    iintro ⟨H0, H1, H2, H3, Hk⟩
    sl_exec!
    sl_step
    iapply Hk
    isplitl [H0]; · iexact H0
    isplitl [H1]; · iexact H1
    isplitl [H2]; · iexact H2
    iexact H3

/-- The contents the run leaves, as a list of stores. -/
theorem run_left : (run (F := F) c M0 h0 M1 h1 M2 h2 M3 h3 f0 f1 f2).1 = M3.view.writes (Elt F) M3.view.junk (run.sl.H3_1 c M0 M1 M2 f0 f1 f2) := by
  dsimp only [run]

/-- The zero offsets of a rank-2 load or store. -/
theorem zeros2 : (![0, 0] : Fin 2 → ℕ) = fun _ => 0 := by funext a; fin_cases a <;> rfl

/-- The load of the weights reads the whole operand. -/
theorem read_weights : View.readAt (Elt F) M0.view (Rect.unit (s := S9x128x64) ![0, 0, 0] S9x128x64.size inb_S9x128x64_S9x128x64_0_0_0).toLoadRect f0 = M0.view.read (Elt F) f0 :=
  View.ld_unit_zero zeros3 _ _

/-- The load of the biases reads the whole operand. -/
theorem read_biases : View.readAt (Elt F) M2.view (Rect.unit (s := S256x1) ![0, 0] S256x1.size inb_S256x1_S256x1_0_0).toLoadRect f2 = M2.view.read (Elt F) f2 :=
  View.ld_unit_zero zeros2 _ _

set_option maxRecDepth 65536 in
/-- What the run leaves reads as the stacked weights of the operands. -/
theorem run_leaves : M3.view.read (Elt F) (run (F := F) c M0 h0 M1 h1 M2 h2 M3 h3 f0 f1 f2).1
    = stacked (M0.view.read (Elt F) f0) (M1.view.read (Elt F) f1) (M2.view.read (Elt F) f2) := by
  rw [run_left, View.read_writes_junk_eq_canon, ← read_weights c M0 f0, ← read_biases c M2 f2]
  unfold run.sl.H3_1
  refine (View.canon_unit_zero zeros2 _ _).trans ?_
  dsimp only
  unfold stacked over15 level14 level9 level3 column
  rfl

/-- The body runs and leaves the stacked weights of its operands. -/
theorem body_runs : ∃ W, RunsTo (F := F) c M0 h0 M1 h1 M2 h2 M3 h3 f0 f1 f2 W
    ∧ M3.view.read (Elt F) W = stacked (M0.view.read (Elt F) f0) (M1.view.read (Elt F) f1) (M2.view.read (Elt F) f2) :=
  ⟨_, (run c M0 h0 M1 h1 M2 h2 M3 h3 f0 f1 f2).2, run_leaves ..⟩

end

end Cert.KernelIdeal.Hash

end
-- ==== Proof.HashRegion.lean ====
/-
  The hashing call as a region of the program: its proof data entered from any contents of the buffers, and its body's obligation.
-/
module

public import proofs.«01_k».proof.Proof.HashBody

@[expose] public section

set_option maxRecDepth 16384

noncomputable section

namespace Cert.KernelIdeal.Hash

open Cert.KernelIdeal Cert.KernelIdeal.Gen Cert.KernelIdeal.Conv
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F))

/-- The weights as the one grid point sees them. -/
abbrev operand0 (c : Dev nD) : Vec F S9x128x64 .f32 := ((cfg0.win 0).blk t0_0).view.read (Elt F) (V c main_v1)

/-- The table of hashed weights as the one grid point sees it. -/
abbrev operand1 (c : Dev nD) : Vec F S1x16 .f32 := ((cfg0.win 1).blk t0_0).view.read (Elt F) (V c main_v4)

/-- The stacked biases as the one grid point sees them. -/
abbrev operand2 (c : Dev nD) : Vec F S256x1 .f32 := ((cfg0.win 2).blk t0_0).view.read (Elt F) (V c main_v3)

/-- The stacked weights of the operands the call is entered with. -/
abbrev result (c : Dev nD) : Vec F S256x577 .bf16 := stacked (operand0 V c) (operand1 V c) (operand2 V c)

/-- The proof data of the region: the arrays as entered, the operands' blocks kept, the result's block the stacked weights. -/
def dat (c : Dev nD) : Dat τ (Elt F) Unit ℕ UU ℕ cfg0 c where
  A w := V c (Proc.devRef .tc (Pipeline.arrRef spec0 w))
  after w _ := match w with
    | ⟨0, _⟩ => operand0 V c
    | ⟨1, _⟩ => operand1 V c
    | ⟨2, _⟩ => operand2 V c
    | ⟨3, _⟩ => result V c
  Φ _ := Pipeline.scopedRest (Ix := Unit) (Name := ℕ) (U := UU) (Lvl := ℕ) (Val := Elt F) spec0 c
  q _ := fullShare
  owed _ := 0

/-- The first operand's buffer holds its block when the body runs. -/
theorem before_0 (c : Dev nD) (d) : (dat V c).before 0 t0_0 d = operand0 V c := by
  unfold Dat.before; rw [if_pos (fetch0_0 t0_0)]; rfl

/-- The second operand's buffer holds its block when the body runs. -/
theorem before_1 (c : Dev nD) (d) : (dat V c).before 1 t0_0 d = operand1 V c := by
  unfold Dat.before; rw [if_pos (fetch0_1 t0_0)]; rfl

/-- The third operand's buffer holds its block when the body runs. -/
theorem before_2 (c : Dev nD) (d) : (dat V c).before 2 t0_0 d = operand2 V c := by
  unfold Dat.before; rw [if_pos (fetch0_2 t0_0)]; rfl

/-- The stacked weights of equal operands are equal. -/
theorem stacked_congr {x x' : Vec F S9x128x64 .f32} {h h' : Vec F S1x16 .f32} {b b' : Vec F S256x1 .f32}
    (hx : x = x') (hh : h = h') (hb : b = b') : stacked x h b = stacked x' h' b' := by rw [hx, hh, hb]

/-- The body keeps the region's promise: from the operands' blocks it leaves the stacked weights. -/
theorem body_obligation (c : Dev nD) : BodyObligation (dat V c) (defs₀ (F := F)) Variants.none () Set.univ := fun t => by
  obtain rfl := fin_N0 t
  rw [bigSep_W0, bigSep_W0]
  simp only [owns_whole_eq]
  rw [show (dat V c).Φ t0_0.succ = (dat V c).Φ t0_0.castSucc from rfl,
    show (dat V c).owesAt () t0_0.succ = (dat V c).owesAt () t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  obtain ⟨W, hW, hleft⟩ := body_runs (F := F) c (stage0_0 (cfg0.slots t0_0 0)) (hstage0_0 0) (stage0_1 (cfg0.slots t0_0 1)) (hstage0_1 0)
    (stage0_2 (cfg0.slots t0_0 2)) (hstage0_2 0) (stage0_3 (cfg0.slots t0_0 3)) (hstage0_3 0) f0 f1 f2
  iapply (hW f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  iexists _; isplitr; swap; (· iexact H3); ipureintro
  exact hleft.trans (stacked_congr hf0 hf1 hf2)

end Cert.KernelIdeal.Hash

end
-- ==== Proof.ConvRegion.lean ====
/-
  The convolution call as a region of the program: its proof data entered from any contents of the buffers, and its body's obligation.
-/
module

public import proofs.«01_k».proof.Proof.ConvBody
public import Idealize.ShloMosaic.Lib.Pipeline.FrameBody

@[expose] public section

set_option maxRecDepth 16384

noncomputable section

namespace Cert.KernelIdeal.Conv

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The two tests over the grid -/

/-- The clearing test holds at the first point only. -/
theorem clears_iff : ∀ t : Fin grid1.N, clears (grid1.coords t) = 1#1 ↔ t.val = 0 := by decide +kernel

/-- The copying test holds at the even points. -/
theorem copies_iff : ∀ t : Fin grid1.N, copies (grid1.coords t) = 1#1 ↔ t.val % 2 = 0 := by decide +kernel

variable (V : Dev nD → Valuation τ sig (Elt F))

/-- The stacked weights as point `t` sees them. -/
abbrev weights (c : Dev nD) (t : Fin cfg1.N) : Vec F S256x577 .bf16 := ((cfg1.win 0).blk t).view.read (Elt F) (V c main_v5)

/-- The image point `t` works on. -/
abbrev image (c : Dev nD) (t : Fin cfg1.N) : Vec F S1x64x112x112 .f32 := ((cfg1.win 1).blk t).view.read (Elt F) (V c main_arg0)

/-- The rows of the padded image point `t` reads. -/
abbrev rowsAt (c : Dev nD) (t : Fin cfg1.N) : Vec F S64x59x128 .f32 := rows (grid1.coords t) (padded (image V c t))

/-- The padded image's buffer. -/
abbrev scratch : Memref sig .tc .vmem S64x117x128 .f32 := Memref.whole cc1_scratch0

/-- Before the first point the padded image's buffer holds anything; after point `t'` it holds that point's padded image. -/
def Holds (c : Dev nD) (t : Fin (cfg1.N + 1)) (f : Bf (F := F) c scratch) : Prop :=
  t.val = 0 ∨ ∃ t' : Fin cfg1.N, t'.val + 1 = t.val ∧ scratch.view.read (Elt F) f = padded (image V c t')

/-- The buffers of the hashing call, held at anything. -/
abbrev Others (c : Dev nD) : sProp 𝕄 :=
  iprop((∃ f, pt (F := F) c (Memref.whole cc0_stg0_0) f) ∗ (∃ f, pt (F := F) c (Memref.whole cc0_stg1_0) f)
    ∗ (∃ f, pt (F := F) c (Memref.whole cc0_stg2_0) f) ∗ (∃ f, pt (F := F) c (Memref.whole cc0_stg3_0) f))

/-- What holds between points: the other call's buffers, and the padded image's with the last point's image in it. -/
def Between (c : Dev nD) (t : Fin (cfg1.N + 1)) : sProp 𝕄 :=
  iprop(Others (F := F) c ∗ ∃ f, ⌜Holds V c t f⌝ ∗ pt (F := F) c scratch f)

/-- The proof data of the region: the arrays as entered, the operands' blocks kept, the results' blocks the two convolutions. -/
def dat (c : Dev nD) : Dat τ (Elt F) Unit ℕ UU ℕ cfg1 c where
  A w := V c (Proc.devRef .tc (Pipeline.arrRef spec1 w))
  after w t := match w with
    | ⟨0, _⟩ => weights V c t
    | ⟨1, _⟩ => image V c t
    | ⟨2, _⟩ => rawBlock (rowsAt V c t) (weights V c t)
    | ⟨3, _⟩ => hashBlock (rowsAt V c t) (weights V c t)
  Φ t := Between V c t
  q _ := fullShare
  owed _ := 0

/-- The weights' buffer holds the weights at every point. -/
theorem before_0 (c : Dev nD) (t : Fin cfg1.N) (d) : (dat V c).before 0 t d = weights V c t :=
  (dat V c).before_in_eq_fetched 0 rfl (fun _ => rfl) (fun _ _ _ => rfl) (fun _ => rfl) t d

/-- The image's buffer holds the point's image at every point. -/
theorem before_1 (c : Dev nD) (t : Fin cfg1.N) (d) : (dat V c).before 1 t d = image V c t :=
  (dat V c).before_in_eq_fetched 1 rfl (fun _ => rfl) (fun _ _ _ => rfl) (fun _ => rfl) t d

/-- At an odd point the image is the one before it. -/
theorem image_prev (c : Dev nD) (t t' : Fin cfg1.N) (ht : t.val % 2 ≠ 0) (h : t'.val + 1 = t.val) : image V c t = image V c t' := by
  have hf : (cfg1.win 1).fetch t = false := by
    rw [← Bool.not_eq_true]; exact fun h => ht ((fetch1_1 t).mp h)
  have hi := (Pipeline.Window.index_eq_of_fetch (cfg1.win 1) rfl t hf).2
  rw [show (⟨t.val - 1, Nat.lt_of_le_of_lt (Nat.sub_le _ _) t.isLt⟩ : Fin cfg1.grid.N) = t' from Fin.ext (by simp [← h])] at hi
  exact (dat V c).fetched_congr 1 hi rfl (fun _ => Classical.arbitrary _)

/-- The two blocks and the padded image a point leaves, for the operands it finds. -/
theorem point_runs (c : Dev nD) (t : Fin cfg1.N)
    (M2 : Memref sig .tc .vmem S256x577 .bf16) (h2 : M2.IsWhole) (M3 : Memref sig .tc .vmem S1x64x112x112 .f32) (h3 : M3.IsWhole)
    (M4 : Memref sig .tc .vmem S1x128x6272 .f32) (h4 : M4.IsWhole) (M5 : Memref sig .tc .vmem S1x128x6272 .f32) (h5 : M5.IsWhole)
    (f2 : Bf (F := F) c M2) (f3 : Bf (F := F) c M3) (f6 : Bf (F := F) c scratch)
    (e2 : M2.view.read (Elt F) f2 = weights V c t) (e3 : M3.view.read (Elt F) f3 = image V c t) (e6 : Holds V c t.castSucc f6) :
    ∃ W, RunsTo c (grid1.coords t) M2 h2 M3 h3 M4 h4 M5 h5 scratch (Memref.isWhole_whole _) f2 f3 f6 W
      ∧ M4.view.read (Elt F) W.1 = rawBlock (rowsAt V c t) (weights V c t)
      ∧ M5.view.read (Elt F) W.2.1 = hashBlock (rowsAt V c t) (weights V c t)
      ∧ Holds V c t.succ W.2.2 := by
  have hz : ¬ copies (grid1.coords t) = 1#1 → t.val % 2 ≠ 0 := fun h e => h ((copies_iff t).mpr e)
  obtain ⟨W, hW, hL⟩ := body_runs (F := F) c (grid1.coords t) M2 h2 M3 h3 M4 h4 M5 h5 scratch (Memref.isWhole_whole _) f2 f3 f6
    (fun h => (copies_iff t).mpr (by rw [(clears_iff t).mp h]))
    (fun h => by
      rcases e6 with e | ⟨t', ht', e⟩
      · exact absurd (show t.val % 2 = 0 by rw [show t.val = 0 from e]) (hz h)
      · rw [e, e3, image_prev V c t t' (hz h) ht'])
    (fun h => by
      rcases e6 with e | ⟨t', ht', e⟩
      · exact absurd ((clears_iff t).mpr e) h
      · exact ⟨_, e⟩)
  refine ⟨W, hW, ?_, ?_, .inr ⟨t, rfl, ?_⟩⟩
  · rw [hL.raw, e2, e3]
  · rw [hL.hash, e2, e3]
  · rw [hL.pad, e3]

/-- Owning a memref that covers its buffer is holding that buffer at contents that read as the block. -/
theorem owns_open (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt (F := F) c M f) := by
  unfold owns; rw [h.set_eq_univ]

/-- Holding the buffer of a memref that covers it, at contents that read as the block, is owning it. -/
theorem owns_close (c : Dev nD) {sp : Space} {S : Shape} {e : EltTy} (M : Memref sig .tc sp S e) (h : M.IsWhole) (X : S.Idx → Elt F e)
    (f : Bf (F := F) c M) (hf : M.view.read (Elt F) f = X) :
    pt (F := F) c M f ⊢ (owns (c : Thread nD τ) M fullShare X : sProp 𝕄) := by
  unfold owns; rw [h.set_eq_univ]
  iintro H
  iexists f; isplitr; swap; (· iexact H); ipureintro; exact hf

/-- The body keeps the region's promise at every point. -/
theorem body_obligation (c : Dev nD) : BodyObligation (dat V c) (defs₀ (F := F)) Variants.none () Set.univ := fun t => by
  rw [bigSep_W1, bigSep_W1]
  rw [show (dat V c).Φ t.castSucc = Between V c t.castSucc from rfl, show (dat V c).Φ t.succ = Between V c t.succ from rfl,
    show (dat V c).owesAt () t.succ = (dat V c).owesAt () t.castSucc from rfl]
  unfold Between
  iintro ⟨⟨Hoth, %f6, %hf6, H6⟩, Howes, ⟨%d0, H2⟩, ⟨%d1, H3⟩, ⟨%d2, H4⟩, ⟨%d3, H5⟩⟩
  icases (owns_open c ((cfg1.win 0).stage (cfg1.slots t 0)) (hstage1_0 ((cfg1.slots t 0).cast nbuf1_0)) _) $$ H2 with ⟨%f2, %hf2, H2⟩
  icases (owns_open c ((cfg1.win 1).stage (cfg1.slots t 1)) (hstage1_1 ((cfg1.slots t 1).cast nbuf1_1)) _) $$ H3 with ⟨%f3, %hf3, H3⟩
  icases (owns_open c ((cfg1.win 2).stage (cfg1.slots t 2)) (hstage1_2 ((cfg1.slots t 2).cast nbuf1_2)) _) $$ H4 with ⟨%f4, -, H4⟩
  icases (owns_open c ((cfg1.win 3).stage (cfg1.slots t 3)) (hstage1_3 ((cfg1.slots t 3).cast nbuf1_3)) _) $$ H5 with ⟨%f5, -, H5⟩
  rw [before_0] at hf2
  rw [before_1] at hf3
  obtain ⟨W, hW, hraw, hhash, hpad⟩ := point_runs V c t (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3)) f2 f3 f6 hf2 hf3 hf6
  iapply (hW f4 f5 Set.univ _)
  isplitl [H2]; · iexact H2
  isplitl [H3]; · iexact H3
  isplitl [H4]; · iexact H4
  isplitl [H5]; · iexact H5
  isplitl [H6]; · iexact H6
  iintro ⟨H2, H3, H4, H5, H6⟩
  isplitl [Hoth H6]
  · isplitl [Hoth]; · iexact Hoth
    iexists _; isplitr; swap; (· iexact H6); ipureintro; exact hpad
  isplitl [Howes]; · iexact Howes
  isplitl [H2]; · iapply (owns_close c ((cfg1.win 0).stage (cfg1.slots t 0)) (hstage1_0 ((cfg1.slots t 0).cast nbuf1_0)) _ f2 hf2); iexact H2
  isplitl [H3]; · iapply (owns_close c ((cfg1.win 1).stage (cfg1.slots t 1)) (hstage1_1 ((cfg1.slots t 1).cast nbuf1_1)) _ f3 hf3); iexact H3
  isplitl [H4]; · iapply (owns_close c ((cfg1.win 2).stage (cfg1.slots t 2)) (hstage1_2 ((cfg1.slots t 2).cast nbuf1_2)) _ W.1 hraw); iexact H4
  iapply (owns_close c ((cfg1.win 3).stage (cfg1.slots t 3)) (hstage1_3 ((cfg1.slots t 3).cast nbuf1_3)) _ W.2.1 hhash); iexact H5

/-- The region's own buffers, as launched, make what holds before the first point. -/
theorem enters (c : Dev nD) : Pipeline.scopedRest (Ix := Unit) (Name := ℕ) (U := UU) (Lvl := ℕ) (Val := Elt F) spec1 c ⊢ Between V c 0 := by
  rw [scopedRest1_eq]
  unfold Between
  iintro ⟨H0, H1, H2, H3, %f, H6⟩
  isplitl [H0 H1 H2 H3]
  · isplitl [H0]; · iexact H0
    isplitl [H1]; · iexact H1
    isplitl [H2]; · iexact H2
    iexact H3
  iexists f; isplitr; swap; (· iexact H6); ipureintro; exact .inl rfl

/-- What holds after the last point gives the region's own buffers back. -/
theorem leaves (c : Dev nD) (t : Fin (cfg1.N + 1)) : Between V c t ⊢ Pipeline.scopedRest (Ix := Unit) (Name := ℕ) (U := UU) (Lvl := ℕ) (Val := Elt F) spec1 c := by
  rw [scopedRest1_eq]
  unfold Between
  iintro ⟨⟨H0, H1, H2, H3⟩, %f, -, H6⟩
  isplitl [H0]; · iexact H0
  isplitl [H1]; · iexact H1
  isplitl [H2]; · iexact H2
  isplitl [H3]; · iexact H3
  iexists f; iexact H6

end Cert.KernelIdeal.Conv

end
-- ==== Proof.Whole.lean ====
/-
  The whole program's run: the host operations before the two calls, the calls as regions, and the host operations after them.
  What every buffer holds at the end is a valuation computed from the launch memory.
-/
module

public import proofs.«01_k».proof.Proof.HashRegion
public import proofs.«01_k».proof.Proof.ConvRegion
public import proofs.«01_k».proof.Proof.Gen.KernelIdeal.Regions

@[expose] public section

set_option maxRecDepth 16384

noncomputable section

namespace Cert.KernelIdeal.Whole

open Cert.KernelIdeal Cert.KernelIdeal.Gen
open Cert.KernelIdeal.Conv (UU)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ)

/-! ## What the buffers hold between the program's items -/

/-- At launch. -/
abbrev W0 (c : Dev nD) : Valuation τ sig (Elt F) := fun b => m (c, b)
/-- After the host operations before the calls. -/
abbrev W1 (c : Dev nD) : Valuation τ sig (Elt F) := StableHlo.after hostOps0 (W0 m c)
/-- After the hashing call. -/
abbrev W2 (c : Dev nD) : Valuation τ sig (Elt F) := Pipeline.afterRegion (Hash.dat (W1 m) c) (W1 m c)
/-- After the convolution call. -/
abbrev W3 (c : Dev nD) : Valuation τ sig (Elt F) := Pipeline.afterRegion (Conv.dat (W2 m) c) (W2 m c)
/-- After the host operations behind the calls. -/
abbrev W4 (c : Dev nD) : Valuation τ sig (Elt F) := StableHlo.after hostOps2 (W3 m c)

/-- A buffer the program never writes ends as launched. -/
theorem W4_kept (c : Dev nD) (r : Ref sig .tc) (h0 : r ∉ hostOps0_W) (h2 : r ∉ hostOps2_W)
    (hr0 : ∀ w, Pipeline.arrRef spec0 w = r → (cfg0.win w).isOut = false) (hr1 : ∀ w, Pipeline.arrRef spec1 w = r → (cfg1.win w).isOut = false) :
    W4 m c r = m ((c : Thread nD τ).loc r) :=
  (StableHlo.after_of_writes_sub hostOps2 _ hostOps2_writes h2).trans <|
    (Pipeline.afterRegion_keeps (Conv.dat (W2 m) c) (W2 m c) launch1.win.arr_inj (fun _ => rfl) r hr1).trans <|
    (Pipeline.afterRegion_keeps (Hash.dat (W1 m) c) (W1 m c) launch0.win.arr_inj (fun _ => rfl) r hr0).trans <|
    StableHlo.after_of_writes_sub hostOps0 _ hostOps0_writes h0

/-! ## The program's items as segments -/

/-- The two regions' proof data. -/
def pdats : (p : Fin 2) → (c : Dev nD) → Dat τ (Elt F) Unit ℕ UU ℕ (cfgs p) c
  | ⟨0, _⟩ => fun c => Hash.dat (W1 m) c
  | ⟨1, _⟩ => fun c => Conv.dat (W2 m) c

/-- Every semaphore of a TensorCore has the one level. -/
def L (g : GSem nD τ sig) : Finset Unit := if g.1.2 = .tc then {()} else ∅
/-- The one level. -/
abbrev lv : GSem nD τ sig → Unit → ℕ := fun _ _ => 0

/-- The levels let either region run: nothing is owed. -/
theorem cut (p : Fin 2) : Pipeline.LevelCut (nD := nD) (τ := τ) (pcfgs (F := F)) adm () L lv p 0 (fun _ => 0) where
  hι _ _ _ := by unfold L; rw [if_pos rfl]; exact Finset.mem_singleton_self _
  hιb _ _ _ := le_refl _
  hD _ _ _ h := absurd h (Nat.lt_irrefl 0)

/-- The hashing call's segment. -/
def reg0 : RegionSeg (pcfgs (F := F)) adm (pdats m) () defs₀ Variants.none L lv 0 :=
  RegionSeg.ofHeldIn (pcfgs (F := F)) adm (pdats m) () defs₀ Variants.none L lv 0 0 (Pipeline.ucRefs τ sig) (fun _ => BI.emp) (fun _ => BI.emp)
    launch0.toP rfl (fun c => (Hash.body_obligation (W1 m) c).loose) (fun _ _ => rfl) (fun _ => rfl)
    (fun c => (Hash.dat (W1 m) c).share_full fun _ => rfl)
    (fun c => by
      exact (show iprop(Pipeline.scopedRest spec0 c ∗ (BI.emp : sProp 𝕄)) ⊢ Pipeline.scopedRest spec0 c from by iintro ⟨H, -⟩; iexact H))
    (fun c => show Pipeline.scopedRest spec0 c ⊢ iprop(Pipeline.scopedRest spec0 c ∗ (BI.emp : sProp 𝕄)) from by
      iintro H; isplitl [H]; (· iexact H); iempintro)
    (fun _ => 0) (cut 0) (fun _ => BI.emp) (W1 m) (fun _ _ => rfl)

/-- The convolution call's segment. -/
def reg1 : RegionSeg (pcfgs (F := F)) adm (pdats m) () defs₀ Variants.none L lv 1 :=
  RegionSeg.ofHeldIn (pcfgs (F := F)) adm (pdats m) () defs₀ Variants.none L lv 1 0 (Pipeline.ucRefs τ sig) (fun _ => BI.emp) (fun _ => BI.emp)
    launch1.toP rfl (fun c => (Conv.body_obligation (W2 m) c).loose) (fun _ _ => rfl) (fun _ => rfl)
    (fun c => (Conv.dat (W2 m) c).share_full fun _ => rfl)
    (fun c => show iprop(Pipeline.scopedRest spec1 c ∗ (BI.emp : sProp 𝕄)) ⊢ Conv.Between (W2 m) c 0 from by
      iintro ⟨H, -⟩; iapply (Conv.enters (W2 m) c); iexact H)
    (fun c => show Conv.Between (W2 m) c (Fin.last cfg1.N) ⊢ iprop(Pipeline.scopedRest spec1 c ∗ (BI.emp : sProp 𝕄)) from by
      iintro H; isplitl [H]; (· iapply (Conv.leaves (W2 m) c _); iexact H); iempintro)
    (fun _ => 0) (cut 1) (fun _ => BI.emp) (W2 m) (fun _ _ => rfl)

/-- What rides along between the items: the core owes nothing. -/
abbrev Idle (c : Dev nD) : sProp 𝕄 :=
  iprop((∃ Wd, owes (c : Thread nD τ) (0 : CellTallies nD τ sig Unit) Wd) ∗ BI.emp ∗ BI.emp)

/-- The hashing call is entered with every unscoped buffer held, -/
theorem reg0_pre (c : Dev nD) : iprop(StableHlo.held (c : Thread nD τ) (Pipeline.ucRefs τ sig) (W1 m c) ∗ Idle c) ⊢ (reg0 m).pre c :=
  RegionSeg.ofHeldIn_pre (D := 0) (X := fun _ => BI.emp) (Y := fun _ => BI.emp) (R := fun _ => BI.emp) (W := W1 m) (Pipeline.arrRefs_sub_ucRefs _ launch0.win.arr_unscoped) c

/-- and left with every unscoped buffer held at the next valuation. -/
theorem reg0_post (c : Dev nD) : (reg0 m).post c ⊢ iprop(StableHlo.held (c : Thread nD τ) (Pipeline.ucRefs τ sig) (W2 m c) ∗ Idle c) :=
  RegionSeg.ofHeldIn_post (D := 0) (X := fun _ => BI.emp) (Y := fun _ => BI.emp) (R := fun _ => BI.emp) (W := W1 m) (Pipeline.arrRefs_sub_ucRefs _ launch0.win.arr_unscoped) c

/-- The convolution call is entered with every unscoped buffer held, -/
theorem reg1_pre (c : Dev nD) : iprop(StableHlo.held (c : Thread nD τ) (Pipeline.ucRefs τ sig) (W2 m c) ∗ Idle c) ⊢ (reg1 m).pre c :=
  RegionSeg.ofHeldIn_pre (D := 0) (X := fun _ => BI.emp) (Y := fun _ => BI.emp) (R := fun _ => BI.emp) (W := W2 m) (Pipeline.arrRefs_sub_ucRefs _ launch1.win.arr_unscoped) c

/-- and left with every unscoped buffer held at the next valuation. -/
theorem reg1_post (c : Dev nD) : (reg1 m).post c ⊢ iprop(StableHlo.held (c : Thread nD τ) (Pipeline.ucRefs τ sig) (W3 m c) ∗ Idle c) :=
  RegionSeg.ofHeldIn_post (D := 0) (X := fun _ => BI.emp) (Y := fun _ => BI.emp) (R := fun _ => BI.emp) (W := W2 m) (Pipeline.arrRefs_sub_ucRefs _ launch1.win.arr_unscoped) c

/-- The host operations before the calls. -/
def host0 : HostSeg (Ix := Unit) (Name := ℕ) (U := UU) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (Idle (F := F))

/-- The host operations behind the calls. -/
def host2 : HostSeg (Ix := Unit) (Name := ℕ) (U := UU) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (Idle (F := F))

/-- The program's items in order. -/
abbrev items (_ : Dev nD) : List (Seg (pcfgs (F := F)) adm (pdats m) () defs₀ Variants.none L lv) :=
  [.host (host0 m), .region (reg0 m), .region (reg1 m), .host (host2 m)]

/-- The pipeline library's part of the resources. -/
abbrev EP : Emb (UR sig nD τ) (MT nD τ sig Unit (Elt F) ℕ UU ℕ) := embL

/-- The resources at launch. -/
def u₀ : UU := (initOf (Pipeline.cells cfgs cellOf_inj) (Pipeline.launchToks cfgs cellOf_inj), 1)

variable (ρ : Dev nD → PrngReg)

set_option backward.isDefEq.respectTransparency.types false in
/-- From any memory with every counter at zero the program terminates on every weakly fair execution; at the end every unscoped
    buffer holds the last valuation's contents and every counter is zero. -/
theorem run : θ_run defs (onTc (τ := τ) (main (F := F))) ⟨m, fun _ => 0, ρ⟩ (fun r =>
    (∀ (c : Dev nD) (b : DevRef τ sig), b ∈ Pipeline.ucRefs τ sig → r.2.mem (c, b) = W4 m c b) ∧ r.2.sem = fun _ => 0) := by
  refine Pipeline.θ_run_regions_kit_dev_sems (pcfgs (F := F)) adm (pdats m) () cellOf_inj EP defs₀ Variants.none L lv m ρ main (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0
    (fun g hg => by unfold L; rw [if_neg hg]) (fun _ => BI.emp) u₀ ?hu
    (T₀ := fun c => iprop(StableHlo.held (c : Thread nD τ) (Pipeline.ucRefs τ sig) (W0 m c) ∗ Idle c))
    (Tₙ := fun c => StableHlo.held (c : Thread nD τ) (Pipeline.ucRefs τ sig) (W4 m c))
    (hch := fun c => ⟨.rfl, reg0_pre m c, (reg0_post m c).trans (reg1_pre m c), reg1_post m c, sep_mono .rfl (by iintro ⟨H, -⟩; iexact H)⟩)
    (hinit := ?init) (QY := fun c s => ∀ b ∈ Pipeline.ucRefs τ sig, s.mem (c, b) = W4 m c b)
    (hfin := fun c s' => ?fin) (hQ := fun _ h hz => ⟨h, funext fun g => hz g (.inr (regions_no_unscoped g.2))⟩)
  case hu =>
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case init =>
    refine Pipeline.initEach L lv fun c => ?_
    rw [← Pipeline.unscopedBufs_held (Ix := Unit) (Name := ℕ) (U := UU) (Lvl := ℕ) c (W0 m c)]
    iintro ⟨⟨Hh, -, HO, -, -, -⟩, -⟩
    imodintro
    isplitl [Hh]; · iexact Hh
    isplitl [HO]; · iexists ∅; iexact HO
    isplitr <;> iempintro
  case fin =>
    unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro; exact h
    · iexact HSI

end Cert.KernelIdeal.Whole

end
-- ==== Proof.Same.lean ====
/-
  The kernel and its idealized print are one program: read at the same floats, their mains and their bodies agree.
-/
module

public import proofs.«01_k».proof.Proof.Whole
public import proofs.«01_k».proof.Proof.Gen.Kernel.Skeleton

@[expose] public section

set_option maxRecDepth 65536

noncomputable section

namespace Cert.Proof

open Idealize.ShloMosaic

variable {F : FTy → Type} [FloatOps F]

/-- The kernels' bodies agree, label by label. -/
theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl

/-- The programs' bodies agree. -/
theorem defs_same : Cert.Kernel.defs (F := F) = Cert.KernelIdeal.defs (F := F) := by
  unfold Cert.Kernel.defs Cert.KernelIdeal.defs
  rw [bodies_same]
  rfl

end Cert.Proof

end
-- ==== Proof.Frames.lean ====
/-
  The three programs run, keep their arguments, and end with every semaphore counter at zero.
-/
module

public import proofs.«01_k».proof.Defs
public import proofs.«01_k».proof.Proof.Same
public import proofs.«01_k».proof.Proof.Gen.ReferenceIdeal.Run

@[expose] public section

set_option maxRecDepth 65536

noncomputable section

namespace Cert.Proof

open Idealize.ShloMosaic Idealize.SL.Sem
open Idealize.ShloMosaic.TcCoe

/-- At the end of the kernel's run each argument reads as launched. -/
theorem args_kept {F : FTy → Type} [FloatOps F] (m : (ℓ : Loc Cert.KernelIdeal.nD Cert.KernelIdeal.τ Cert.KernelIdeal.sig) → Buf (Elt F) ℓ)
    (c : Dev Cert.KernelIdeal.nD) (s : MemSt Cert.KernelIdeal.nD Cert.KernelIdeal.τ Cert.KernelIdeal.sig (Elt F))
    (h : ∀ b ∈ Pipeline.ucRefs Cert.KernelIdeal.τ Cert.KernelIdeal.sig, s.mem (c, b) = Cert.KernelIdeal.Whole.W4 m c b)
    (r : Ref Cert.KernelIdeal.sig .tc) (hu : ¬ (Proc.devRef (τ := Cert.KernelIdeal.τ) .tc r).isScoped = true)
    (h0 : r ∉ Cert.KernelIdeal.Gen.hostOps0_W) (h2 : r ∉ Cert.KernelIdeal.Gen.hostOps2_W)
    (hr0 : ∀ w, Pipeline.arrRef Cert.KernelIdeal.spec0 w = r → (Cert.KernelIdeal.cfg0.win w).isOut = false)
    (hr1 : ∀ w, Pipeline.arrRef Cert.KernelIdeal.spec1 w = r → (Cert.KernelIdeal.cfg1.win w).isOut = false) :
    s.mem ((c.tc : Thread Cert.KernelIdeal.nD Cert.KernelIdeal.τ).loc r) = m ((c.tc : Thread Cert.KernelIdeal.nD Cert.KernelIdeal.τ).loc r) :=
  (h (Proc.devRef .tc r) (Finset.mem_filter.mpr ⟨StableHlo.devRef_mem_tcRefs r, hu⟩)).trans (Cert.KernelIdeal.Whole.W4_kept m c r h0 h2 hr0 hr1)

/-- The kernel's run at any floats: both results at the last valuation, the arguments kept, every counter zero. -/
theorem kernel_run {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        (r.2.mem ((c.tc : Thread Cert.KernelIdeal.nD Cert.KernelIdeal.τ).loc Cert.KernelIdeal.main_v7) = Cert.KernelIdeal.Whole.W4 m c Cert.KernelIdeal.main_v7
        ∧ r.2.mem ((c.tc : Thread Cert.KernelIdeal.nD Cert.KernelIdeal.τ).loc Cert.KernelIdeal.main_v8) = Cert.KernelIdeal.Whole.W4 m c Cert.KernelIdeal.main_v8)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun r h => ⟨fun c => ⟨
      ⟨h.1 c (Proc.devRef .tc Cert.KernelIdeal.main_v7) (Finset.mem_filter.mpr ⟨StableHlo.devRef_mem_tcRefs Cert.KernelIdeal.main_v7, by decide⟩),
        h.1 c (Proc.devRef .tc Cert.KernelIdeal.main_v8) (Finset.mem_filter.mpr ⟨StableHlo.devRef_mem_tcRefs Cert.KernelIdeal.main_v8, by decide⟩)⟩,
      args_kept m c r.2 (h.1 c) Cert.KernelIdeal.main_arg0 (by decide) (by decide) (by decide) (by decide) (by decide),
      args_kept m c r.2 (h.1 c) Cert.KernelIdeal.main_arg1 (by decide) (by decide) (by decide) (by decide) (by decide),
      args_kept m c r.2 (h.1 c) Cert.KernelIdeal.main_arg2 (by decide) (by decide) (by decide) (by decide) (by decide),
      args_kept m c r.2 (h.1 c) Cert.KernelIdeal.main_arg3 (by decide) (by decide) (by decide) (by decide) (by decide),
      args_kept m c r.2 (h.1 c) Cert.KernelIdeal.main_arg4 (by decide) (by decide) (by decide) (by decide) (by decide)⟩, h.2⟩)
    (Cert.KernelIdeal.Whole.run m g)

/-- The idealized kernel's frame. -/
theorem frame_kernelIdeal : Cert.quiescent_KernelIdeal := fun m g _ =>
  (θ_run Cert.KernelIdeal.defs _ _).mono (fun _ h => ⟨fun c => (h.1 c).2, h.2⟩) (kernel_run m g)

/-- The kernel's frame: it is the same program. -/
theorem frame_kernel : Cert.quiescent_Kernel := fun m g _ => by
  rw [defs_same]
  exact (θ_run Cert.KernelIdeal.defs _ _).mono (fun _ h => ⟨fun c => (h.1 c).2, h.2⟩) (kernel_run (F := Bits) m g)

/-- The reference's frame: a straight-line host program without semaphores. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

end Cert.Proof

end
-- ==== Proof.Spec.lean ====
module
public import Idealize.ShloMosaic.Lib.ValueIdx
public import Idealize.ShloMosaic.Lib.ValueIdxCoords
public import Idealize.ShloMosaic.Lib.Pipeline.Value
public import Idealize.ShloMosaic.PureOps.Ideal.Laws

/-!
The mathematics that the kernel and the reference share, over the extended reals: a 3 × 3 convolution with a border of
zeros and a bias, and the replacement of a weight by the value of its bucket.
-/

@[expose] public section

noncomputable section

namespace Cert.Value

open Idealize.ShloMosaic Idealize.ShloMosaic.ValueIdx

/-- The images: 32 of them, 64 channels, 112 × 112. -/
abbrev Images := (⟨4, ![32, 64, 112, 112]⟩ : Shape).Idx → EReal
/-- The weights: 128 output channels, 64 input channels, 3 × 3 taps. -/
abbrev Weights := (⟨4, ![128, 64, 3, 3]⟩ : Shape).Idx → EReal
/-- One number for each output channel. -/
abbrev Biases := (⟨1, ![128]⟩ : Shape).Idx → EReal

/-- Row `y`, column `z` of image `n`, channel `c`, with a border of zeros one wide: the image begins at row and column 1. -/
def padAt (X : Images) (n : Fin 32) (c : Fin 64) (y z : Nat) : EReal :=
  if h : (1 ≤ y ∧ y ≤ 112) ∧ (1 ≤ z ∧ z ≤ 112) then
    X (ix4 n c ⟨y - 1, by omega⟩ ⟨z - 1, by omega⟩)
  else 0

/-- The row of tap `d` of the nine. -/
abbrev tapRow (d : Fin 9) : Fin 3 := ⟨d.val / 3, by omega⟩
/-- The column of tap `d` of the nine. -/
abbrev tapCol (d : Fin 9) : Fin 3 := ⟨d.val % 3, by omega⟩

/-- What tap `d` adds to the convolution at row `i`, column `j`. -/
def tapAt (X : Images) (w : Weights) (n : Fin 32) (o : Fin 128) (i j : Nat) (d : Fin 9) : EReal :=
  ∑ c : Fin 64, padAt X n c (i + d.val / 3) (j + d.val % 3) * w (ix4 o c (tapRow d) (tapCol d))

/-- The convolution of image `n` with the weights of output channel `o`, at row `i`, column `j`. -/
def convAt (X : Images) (w : Weights) (b : EReal) (n : Fin 32) (o : Fin 128) (i j : Nat) : EReal :=
  ∑ d : Fin 9, tapAt X w n o i j d + b

/-- A sum of nine terms, written out from the left. -/
theorem sum_nine (f : Fin 9 → EReal) :
    ∑ d, f d = f 0 + f 1 + f 2 + f 3 + f 4 + f 5 + f 6 + f 7 + f 8 := by
  rw [Fin.sum_univ_castSucc, Fin.sum_univ_eight]; rfl

/-- The numbers 1, …, 16 as 32-bit float words. -/
def levels : Fin 16 → BitVec 32 :=
  ![0x3F800000#32, 0x40000000#32, 0x40400000#32, 0x40800000#32, 0x40A00000#32, 0x40C00000#32, 0x40E00000#32, 0x41000000#32,
    0x41100000#32, 0x41200000#32, 0x41300000#32, 0x41400000#32, 0x41500000#32, 0x41600000#32, 0x41700000#32, 0x41800000#32]

/-- One bucket: a value above the bucket's threshold becomes the bucket's value. -/
def bucket (lo step : EReal) (h : Fin 16 → EReal) (k : Fin 16) (v : EReal) : EReal :=
  Scalar.select (FloatOps.cmpf (F := Ideal) (φ := .f32) .ogt v (Ideal.ofBits .f32 (levels k) * step + lo)) (h k) v

/-- The sixteen buckets, one after the other. -/
def hashed (lo step : EReal) (h : Fin 16 → EReal) (v : EReal) : EReal :=
  bucket lo step h 15 <| bucket lo step h 14 <| bucket lo step h 13 <| bucket lo step h 12 <| bucket lo step h 11 <|
  bucket lo step h 10 <| bucket lo step h 9 <| bucket lo step h 8 <| bucket lo step h 7 <| bucket lo step h 6 <|
  bucket lo step h 5 <| bucket lo step h 4 <| bucket lo step h 3 <| bucket lo step h 2 <| bucket lo step h 1 <|
  bucket lo step h 0 v

/-- The least weight. -/
def least (w : Weights) : EReal :=
  Finset.univ.fold (FloatOps.minimumf (F := Ideal) (φ := .f32)) (Ideal.ofBits .f32 0x7F800000#32) w

/-- The greatest weight. -/
def greatest (w : Weights) : EReal :=
  Finset.univ.fold (FloatOps.maximumf (F := Ideal) (φ := .f32)) (Ideal.ofBits .f32 0xFF800000#32) w

/-- The width of a bucket: a sixteenth of the weights' range. -/
def width (w : Weights) : EReal := Ideal.div (greatest w - least w) (Ideal.ofBits .f32 0x41800000#32)

/-- The weights with each replaced by its bucket's value. -/
def hashedWeights (w : Weights) (h : Fin 16 → EReal) : Weights := fun i => hashed (least w) (width w) h (w i)

end Cert.Value

end
-- ==== Proof.HashLevels.lean ====
module
public import proofs.«01_k».proof.Proof.HashBody
public import proofs.«01_k».proof.Proof.Spec

/-!
The hashing call's sixteen levels, at an index: each weight ends as its bucket's value.
-/

@[expose] public section

set_option maxRecDepth 16384

noncomputable section

namespace Cert.Value

open Cert.KernelIdeal Cert.KernelIdeal.Gen Cert.KernelIdeal.Hash Idealize.ShloMosaic Idealize.ShloMosaic.ValueIdx

/-- The weights as the hashing call holds them: tap, output channel, input channel. -/
abbrev Taps := S9x128x64.Idx → EReal

/-- A cast to the same shape changes nothing. -/
theorem taps_cast (x : Taps) : k0_pay2 (F := Ideal) x = x :=
  funext fun i => shapeCast_apply x _ i i rfl

/-- The one entry of column `k` of the table. -/
theorem column_entry (h : S1x16.Idx → EReal) (k : Fin 16) :
    extractAt ![0, 0] (column (F := Ideal) h k) inpos_S1x1_p0_0 = h (ix2 0 k) := by
  refine congrArg h (funext fun a => Fin.ext ?_)
  match a with
  | ⟨0, _⟩ => rfl
  | ⟨1, _⟩ => show k.val + 1 * 0 = k.val; omega

/-- The table's entries, as the call takes them out of their columns. -/
abbrev entries (h : S1x16.Idx → EReal) : Fin 16 → EReal :=
  fun k => extractAt ![0, 0] (column (F := Ideal) h k) inpos_S1x1_p0_0

/-- The first three levels at an index. -/
theorem level3_at (x : Taps) (h : S1x16.Idx → EReal) (i : S9x128x64.Idx) :
    level3 (F := Ideal) x h i
      = bucket (k0_pay3 (F := Ideal) x) (k0_pay4 (F := Ideal) x) (entries h) 2
          (bucket (k0_pay3 (F := Ideal) x) (k0_pay4 (F := Ideal) x) (entries h) 1
            (bucket (k0_pay3 (F := Ideal) x) (k0_pay4 (F := Ideal) x) (entries h) 0 (k0_pay2 (F := Ideal) x i))) := rfl

/-- Levels four to nine at an index. -/
theorem level9_at (x : Taps) (h : S1x16.Idx → EReal) (i : S9x128x64.Idx) :
    level9 (F := Ideal) x h i
      = bucket (k0_pay3 (F := Ideal) x) (k0_pay4 (F := Ideal) x) (entries h) 8
          (bucket (k0_pay3 (F := Ideal) x) (k0_pay4 (F := Ideal) x) (entries h) 7
          (bucket (k0_pay3 (F := Ideal) x) (k0_pay4 (F := Ideal) x) (entries h) 6
          (bucket (k0_pay3 (F := Ideal) x) (k0_pay4 (F := Ideal) x) (entries h) 5
          (bucket (k0_pay3 (F := Ideal) x) (k0_pay4 (F := Ideal) x) (entries h) 4
          (bucket (k0_pay3 (F := Ideal) x) (k0_pay4 (F := Ideal) x) (entries h) 3 (level3 (F := Ideal) x h i)))))) := rfl

/-- Levels ten to fourteen at an index. -/
theorem level14_at (x : Taps) (h : S1x16.Idx → EReal) (i : S9x128x64.Idx) :
    level14 (F := Ideal) x h i
      = bucket (k0_pay3 (F := Ideal) x) (k0_pay4 (F := Ideal) x) (entries h) 13
          (bucket (k0_pay3 (F := Ideal) x) (k0_pay4 (F := Ideal) x) (entries h) 12
          (bucket (k0_pay3 (F := Ideal) x) (k0_pay4 (F := Ideal) x) (entries h) 11
          (bucket (k0_pay3 (F := Ideal) x) (k0_pay4 (F := Ideal) x) (entries h) 10
          (bucket (k0_pay3 (F := Ideal) x) (k0_pay4 (F := Ideal) x) (entries h) 9 (level9 (F := Ideal) x h i))))) := rfl

/-- The weights after all sixteen levels. -/
abbrev level16 (x : Taps) (h : S1x16.Idx → EReal) : Taps :=
  k0_pay12 (F := Ideal) (k0_pay3 (F := Ideal) x) (k0_pay4 (F := Ideal) x) (level14 (F := Ideal) x h) (over15 (F := Ideal) x h)
    (column (F := Ideal) h 14) (column (F := Ideal) h 15)

/-- The last two levels at an index. -/
theorem level16_at (x : Taps) (h : S1x16.Idx → EReal) (i : S9x128x64.Idx) :
    level16 x h i
      = bucket (k0_pay3 (F := Ideal) x) (k0_pay4 (F := Ideal) x) (entries h) 15
          (bucket (k0_pay3 (F := Ideal) x) (k0_pay4 (F := Ideal) x) (entries h) 14 (level14 (F := Ideal) x h i)) := rfl

/-- All sixteen levels at an index. -/
theorem level16_hashed (x : Taps) (h : S1x16.Idx → EReal) (i : S9x128x64.Idx) :
    level16 x h i = hashed (k0_pay3 (F := Ideal) x) (k0_pay4 (F := Ideal) x) (fun k => h (ix2 0 k)) (x i) := by
  rw [level16_at, level14_at, level9_at, level3_at, taps_cast, show entries h = fun k => h (ix2 0 k) from funext (column_entry h)]
  rfl

/-- Which weight a tap, an output channel and an input channel name. -/
def tapIndex : (⟨4, ![1, 9, 128, 64]⟩ : Shape).Idx ≃ (⟨4, ![128, 64, 3, 3]⟩ : Shape).Idx where
  toFun i := ix4 (i 2) (i 3) (tapRow (i 1)) (tapCol (i 1))
  invFun j := ix4 (0 : Fin 1) (⟨3 * (j 2).val + (j 3).val, by
    have h2 : (j 2).val < 3 := (j 2).isLt
    have h3 : (j 3).val < 3 := (j 3).isLt
    omega⟩ : Fin 9) (j 0) (j 1)
  left_inv i := by
    funext a
    match a with
    | ⟨0, _⟩ => exact Subsingleton.elim (α := Fin 1) _ _
    | ⟨1, _⟩ => exact Fin.ext (show 3 * ((i 1).val / 3) + (i 1).val % 3 = (i 1).val by omega)
    | ⟨2, _⟩ => rfl
    | ⟨3, _⟩ => rfl
  right_inv j := by
    have h3 : (j 3).val < 3 := (j 3).isLt
    funext a
    match a with
    | ⟨0, _⟩ => rfl
    | ⟨1, _⟩ => rfl
    | ⟨2, _⟩ => exact Fin.ext (show (3 * (j 2).val + (j 3).val) / 3 = (j 2).val by omega)
    | ⟨3, _⟩ => exact Fin.ext (show (3 * (j 2).val + (j 3).val) % 3 = (j 3).val by omega)

/-- The one entry of a shape of extent one, cast and taken out. -/
theorem extract_one (y : S1.Idx → EReal) (z : EReal) (h : ∀ j, y j = z) :
    extractAt ![0, 0, 0, 0] (shapeCast S1x1x1x1 y shapeCasts_S1_S1x1x1x1) inpos_S1x1x1x1_p0_0_0_0 = z := h _

section

variable (x : Taps) (w : Weights) (hx : ∀ (d : Fin 9) (o : Fin 128) (c : Fin 64), x (ix3 d o c) = w (ix4 o c (tapRow d) (tapCol d)))
include hx

/-- The weights with a unit axis in front, at an index. -/
theorem lifted_at (i : S1x9x128x64.Idx) :
    shapeCast S1x9x128x64 (k0_pay2 (F := Ideal) x) shapeCasts_S9x128x64_S1x9x128x64 i = w (tapIndex i) := by
  rw [taps_cast]
  refine (shapeCast_apply x _ i (ix3 (i 1) (i 2) (i 3)) ?_).trans (hx (i 1) (i 2) (i 3))
  have h0 : (i 0).val < 1 := (i 0).isLt
  rewrite [Shape.rowMajor_val_four, Shape.rowMajor_val_three]
  show ((i 1).val * 128 + (i 2).val) * 64 + (i 3).val = (((i 0).val * 9 + (i 1).val) * 128 + (i 2).val) * 64 + (i 3).val
  omega

/-- A fold over all the weights may run over them in the call's order. -/
theorem fold_taps (f : EReal → EReal → EReal) [Std.Commutative f] [Std.Associative f] (z : EReal) :
    (Finset.univ.fold f z fun i : S1x9x128x64.Idx => shapeCast S1x9x128x64 (k0_pay2 (F := Ideal) x) shapeCasts_S9x128x64_S1x9x128x64 i)
      = Finset.univ.fold f z w := by
  rw [← Finset.map_univ_equiv tapIndex, Finset.fold_map]
  exact Finset.fold_congr fun i _ => lifted_at x w hx i

/-- The call's least weight. -/
theorem call_least : k0_pay3 (F := Ideal) x = least w := by
  unfold k0_pay3
  dsimp only
  refine extract_one _ _ fun j => ?_
  refine (multiReduction_minimumf_eq_fold _ _ _ _ _ j).trans ?_
  rw [Finset.filter_true_of_mem fun i _ => (eq_ix1_u0 _).trans (eq_ix1_u0 j).symm]
  exact fold_taps x w hx _ _

/-- The call's greatest weight, less its least, over sixteen. -/
theorem call_width : k0_pay4 (F := Ideal) x = width w := by
  have e : extractAt ![0, 0, 0, 0] (shapeCast S1x1x1x1 (multiReduction (F := Ideal) .maximumf [1, 2, 3] S1
      (shapeCast S1x9x128x64 (k0_pay2 (F := Ideal) x) shapeCasts_S9x128x64_S1x9x128x64) 0xFF800000#32 reduces_S1x9x128x64_S1 (.inl rfl) rfl)
      shapeCasts_S1_S1x1x1x1) inpos_S1x1x1x1_p0_0_0_0 = greatest w := by
    refine extract_one _ _ fun j => ?_
    refine (multiReduction_maximumf_eq_fold _ _ _ _ _ j).trans ?_
    rw [Finset.filter_true_of_mem fun i _ => (eq_ix1_u0 _).trans (eq_ix1_u0 j).symm]
    exact fold_taps x w hx _ _
  unfold k0_pay4 width
  dsimp only
  rw [e, call_least x w hx]
  rfl

/-- After the sixteen levels the call holds the replaced weights. -/
theorem call_hashed (h : S1x16.Idx → EReal) (d : Fin 9) (o : Fin 128) (c : Fin 64) :
    level16 x h (ix3 d o c) = hashedWeights w (fun k => h (ix2 0 k)) (ix4 o c (tapRow d) (tapCol d)) := by
  rw [level16_hashed, call_least x w hx, call_width x w hx, hx]
  rfl

end

end Cert.Value

end
-- ==== Proof.Stacked.lean ====
module
public import proofs.«01_k».proof.Proof.HashLevels
public import Idealize.ShloMosaic.Lib.ValueLayout

/-!
The hashing call's result, at an index: the nine taps side by side, 64 input channels each, then the bias; the 128 rows
of the given weights above the 128 rows of the replaced ones.
-/

@[expose] public section

set_option maxRecDepth 16384

noncomputable section

namespace Cert.Value

open Cert.KernelIdeal Cert.KernelIdeal.Gen Cert.KernelIdeal.Hash Idealize.ShloMosaic Idealize.ShloMosaic.ValueIdx

/-- The row of output channel `o` among the given weights. -/
abbrev upper (o : Fin 128) : Fin 256 := ⟨o.val, by omega⟩
/-- The row of output channel `o` among the replaced weights. -/
abbrev lower (o : Fin 128) : Fin 256 := ⟨128 + o.val, by omega⟩
/-- The column of tap `d` and input channel `c`. -/
abbrev tapColumn (d : Fin 9) (c : Fin 64) : Fin 577 := ⟨d.val * 64 + c.val, by omega⟩

/-- One tap's weights, cut out. -/
theorem cut_tap (y : Taps) (t : Nat) (hs : S9x128x64.Slices ![t, 0, 0] S1x128x64) (d : Fin 9) (hd : d.val = t) (o : Fin 128) (c : Fin 64) :
    shapeCast S128x64 (extractStridedSlice S1x128x64 ![t, 0, 0] y hs) shapeCasts_S1x128x64_S128x64 (ix2 o c) = y (ix3 d o c) := by
  refine (shapeCast_1ab_ab_apply _ _ o c).trans (extractStridedSlice_apply _ _ _ _ (ix3 d o c) fun a => ?_)
  match a with
  | ⟨0, _⟩ => show d.val = t + 0; omega
  | ⟨1, _⟩ => show o.val = 0 + o.val; omega
  | ⟨2, _⟩ => show c.val = 0 + c.val; omega

/-- Three taps' weights side by side, the first of them tap `t`. -/
theorem three_taps (y : Taps) (t0 t1 t2 : Nat) (h0 : S9x128x64.Slices ![t0, 0, 0] S1x128x64) (h1 : S9x128x64.Slices ![t1, 0, 0] S1x128x64)
    (h2 : S9x128x64.Slices ![t2, 0, 0] S1x128x64) (f : Fin 3) (d : Fin 9) (hd : d.val = ![t0, t1, t2] f) (o : Fin 128) (c : Fin 64) (k : Fin 192)
    (hk : k.val = f.val * 64 + c.val) :
    concatenate S128x192 1
        [⟨S128x64, shapeCast S128x64 (extractStridedSlice S1x128x64 ![t0, 0, 0] y h0) shapeCasts_S1x128x64_S128x64⟩,
          ⟨S128x64, shapeCast S128x64 (extractStridedSlice S1x128x64 ![t1, 0, 0] y h1) shapeCasts_S1x128x64_S128x64⟩,
          ⟨S128x64, shapeCast S128x64 (extractStridedSlice S1x128x64 ![t2, 0, 0] y h2) shapeCasts_S1x128x64_S128x64⟩]
        concatenates_S128x64_S128x64_S128x64_S128x192_d1 (ix2 o k)
      = y (ix3 d o c) := by
  have off : ∀ b : Fin S128x64.rank, b.cast rfl ≠ (1 : Fin S128x192.rank) → ((ix2 o c : S128x64.Idx) b).val = ((ix2 o k : S128x192.Idx) (b.cast rfl)).val := fun b hb => by
    match b, hb with
    | ⟨0, _⟩, _ => rfl
    | ⟨1, _⟩, hb => exact absurd rfl hb
  match f, hd, hk with
  | ⟨0, _⟩, hd, hk =>
    exact (concatenate_apply_piece 1 _ _ (ix2 o k) 0 (by simp) S128x64 _ rfl rfl 0 rfl (ix2 o c) off (by dsimp only at hk; show 0 + c.val = k.val; omega)).trans (cut_tap y t0 h0 d hd o c)
  | ⟨1, _⟩, hd, hk =>
    exact (concatenate_apply_piece 1 _ _ (ix2 o k) 1 (by simp) S128x64 _ rfl rfl 64 rfl (ix2 o c) off (by dsimp only at hk; show 64 + c.val = k.val; omega)).trans (cut_tap y t1 h1 d hd o c)
  | ⟨2, _⟩, hd, hk =>
    exact (concatenate_apply_piece 1 _ _ (ix2 o k) 2 (by simp) S128x64 _ rfl rfl 128 rfl (ix2 o c) off (by dsimp only at hk; show 128 + c.val = k.val; omega)).trans (cut_tap y t2 h2 d hd o c)

/-- Two blocks of rows one above the other, read in the upper one. -/
theorem above (A B : S128x192.Idx → EReal) (o : Fin 128) (k : Fin 192) :
    concatenate S256x192 0 [⟨S128x192, A⟩, ⟨S128x192, B⟩] concatenates_S128x192_S128x192_S256x192_d0 (ix2 (upper o) k) = A (ix2 o k) := by
  refine concatenate_apply_piece 0 _ _ (ix2 (upper o) k) 0 (by simp) S128x192 A rfl rfl 0 rfl (ix2 o k) (fun b hb => ?_) (by show 0 + o.val = o.val; omega)
  match b, hb with
  | ⟨0, _⟩, hb => exact absurd rfl hb
  | ⟨1, _⟩, _ => rfl

/-- Two blocks of rows one above the other, read in the lower one. -/
theorem below (A B : S128x192.Idx → EReal) (o : Fin 128) (k : Fin 192) :
    concatenate S256x192 0 [⟨S128x192, A⟩, ⟨S128x192, B⟩] concatenates_S128x192_S128x192_S256x192_d0 (ix2 (lower o) k) = B (ix2 o k) := by
  refine concatenate_apply_piece 0 _ _ (ix2 (lower o) k) 1 (by simp) S128x192 B rfl rfl 128 rfl (ix2 o k) (fun b hb => ?_) rfl
  match b, hb with
  | ⟨0, _⟩, hb => exact absurd rfl hb
  | ⟨1, _⟩, _ => rfl

/-- Three blocks of 192 columns and one column more. -/
abbrev side (A : Fin 3 → (S256x192.Idx → EReal)) (D : S256x1.Idx → EReal) : S256x577.Idx → EReal :=
  concatenate S256x577 1 [⟨S256x192, A 0⟩, ⟨S256x192, A 1⟩, ⟨S256x192, A 2⟩, ⟨S256x1, D⟩] concatenates_S256x192_S256x192_S256x192_S256x1_S256x577_d1

/-- The columns side by side, read in block `e`. -/
theorem side_block (A : Fin 3 → (S256x192.Idx → EReal)) (D : S256x1.Idx → EReal) (e : Fin 3) (r : Fin 256) (k : Fin 192) (q : Fin 577)
    (hq : q.val = e.val * 192 + k.val) : side A D (ix2 r q) = A e (ix2 r k) := by
  have off : ∀ a : Fin S256x192.rank, a.cast rfl ≠ (1 : Fin S256x577.rank) → ((ix2 r k : S256x192.Idx) a).val = ((ix2 r q : S256x577.Idx) (a.cast rfl)).val := fun a ha => by
    match a, ha with
    | ⟨0, _⟩, _ => rfl
    | ⟨1, _⟩, ha => exact absurd rfl ha
  match e, hq with
  | ⟨0, _⟩, hq => exact concatenate_apply_piece 1 _ _ (ix2 r q) 0 (by simp) S256x192 (A 0) rfl rfl 0 rfl (ix2 r k) off (by dsimp only at hq; show 0 + k.val = q.val; omega)
  | ⟨1, _⟩, hq => exact concatenate_apply_piece 1 _ _ (ix2 r q) 1 (by simp) S256x192 (A 1) rfl rfl 192 rfl (ix2 r k) off (by dsimp only at hq; show 192 + k.val = q.val; omega)
  | ⟨2, _⟩, hq => exact concatenate_apply_piece 1 _ _ (ix2 r q) 2 (by simp) S256x192 (A 2) rfl rfl 384 rfl (ix2 r k) off (by dsimp only at hq; show 384 + k.val = q.val; omega)

/-- The columns side by side, read in the last one. -/
theorem side_last (A : Fin 3 → (S256x192.Idx → EReal)) (D : S256x1.Idx → EReal) (r : Fin 256) :
    side A D (ix2 r (Fin.last 576)) = D (ix2 r 0) := by
  refine concatenate_apply_piece 1 _ _ (ix2 r (Fin.last 576)) 3 (by simp) S256x1 D rfl rfl 576 rfl (ix2 r (0 : Fin 1)) (fun a ha => ?_) rfl
  match a, ha with
  | ⟨0, _⟩, _ => rfl
  | ⟨1, _⟩, ha => exact absurd rfl ha

section

variable (x : Taps) (h : S1x16.Idx → EReal) (b : S256x1.Idx → EReal)

/-- The three blocks of three taps. -/
abbrev blocks : Fin 3 → (S256x192.Idx → EReal) :=
  ![k0_pay13 (F := Ideal) (k0_pay2 (F := Ideal) x) (k0_pay3 (F := Ideal) x) (k0_pay4 (F := Ideal) x) (level14 (F := Ideal) x h) (over15 (F := Ideal) x h) (column (F := Ideal) h 14) (column (F := Ideal) h 15),
    k0_pay14 (F := Ideal) (k0_pay2 (F := Ideal) x) (k0_pay3 (F := Ideal) x) (k0_pay4 (F := Ideal) x) (level14 (F := Ideal) x h) (over15 (F := Ideal) x h) (column (F := Ideal) h 14) (column (F := Ideal) h 15),
    k0_pay15 (F := Ideal) (k0_pay2 (F := Ideal) x) (k0_pay3 (F := Ideal) x) (k0_pay4 (F := Ideal) x) (level14 (F := Ideal) x h) (over15 (F := Ideal) x h) (column (F := Ideal) h 14) (column (F := Ideal) h 15)]

/-- A block of three taps in its upper rows. -/
theorem blocks_upper (e f : Fin 3) (d : Fin 9) (hd : d.val = 3 * e.val + f.val) (o : Fin 128) (c : Fin 64) (k : Fin 192)
    (hk : k.val = f.val * 64 + c.val) : blocks x h e (ix2 (upper o) k) = x (ix3 d o c) := by
  rw [show x (ix3 d o c) = k0_pay2 (F := Ideal) x (ix3 d o c) by rw [taps_cast]]
  match e, hd with
  | ⟨0, _⟩, hd => exact (above _ _ o k).trans (three_taps _ 0 1 2 _ _ _ f d (by fin_cases f <;> exact hd) o c k hk)
  | ⟨1, _⟩, hd => exact (above _ _ o k).trans (three_taps _ 3 4 5 _ _ _ f d (by fin_cases f <;> exact hd) o c k hk)
  | ⟨2, _⟩, hd => exact (above _ _ o k).trans (three_taps _ 6 7 8 _ _ _ f d (by fin_cases f <;> exact hd) o c k hk)

/-- A block of three taps in its lower rows. -/
theorem blocks_lower (e f : Fin 3) (d : Fin 9) (hd : d.val = 3 * e.val + f.val) (o : Fin 128) (c : Fin 64) (k : Fin 192)
    (hk : k.val = f.val * 64 + c.val) : blocks x h e (ix2 (lower o) k) = level16 x h (ix3 d o c) := by
  match e, hd with
  | ⟨0, _⟩, hd => exact (below _ _ o k).trans (three_taps _ 0 1 2 _ _ _ f d (by fin_cases f <;> exact hd) o c k hk)
  | ⟨1, _⟩, hd => exact (below _ _ o k).trans (three_taps _ 3 4 5 _ _ _ f d (by fin_cases f <;> exact hd) o c k hk)
  | ⟨2, _⟩, hd => exact (below _ _ o k).trans (three_taps _ 6 7 8 _ _ _ f d (by fin_cases f <;> exact hd) o c k hk)

/-- The stacked weights in block `e` of the three. -/
theorem stacked_block (e : Fin 3) (r : Fin 256) (k : Fin 192) (q : Fin 577) (hq : q.val = e.val * 192 + k.val) :
    stacked (F := Ideal) x h b (ix2 r q) = blocks x h e (ix2 r k) :=
  side_block (blocks x h) (shapeCast S256x1 b shapeCasts_S256x1_S256x1) e r k q hq

/-- The stacked weights at a given weight. -/
theorem stacked_upper (o : Fin 128) (d : Fin 9) (c : Fin 64) :
    stacked (F := Ideal) x h b (ix2 (upper o) (tapColumn d c)) = x (ix3 d o c) := by
  have hd := d.isLt
  have hc := c.isLt
  rw [stacked_block x h b ⟨d.val / 3, by omega⟩ (upper o) ⟨d.val % 3 * 64 + c.val, by omega⟩ _ (by show d.val * 64 + c.val = d.val / 3 * 192 + (d.val % 3 * 64 + c.val); omega)]
  exact blocks_upper x h _ ⟨d.val % 3, by omega⟩ d (by show d.val = 3 * (d.val / 3) + d.val % 3; omega) o c _ rfl

/-- The stacked weights at a replaced weight. -/
theorem stacked_lower (o : Fin 128) (d : Fin 9) (c : Fin 64) :
    stacked (F := Ideal) x h b (ix2 (lower o) (tapColumn d c)) = level16 x h (ix3 d o c) := by
  have hd := d.isLt
  have hc := c.isLt
  rw [stacked_block x h b ⟨d.val / 3, by omega⟩ (lower o) ⟨d.val % 3 * 64 + c.val, by omega⟩ _ (by show d.val * 64 + c.val = d.val / 3 * 192 + (d.val % 3 * 64 + c.val); omega)]
  exact blocks_lower x h _ ⟨d.val % 3, by omega⟩ d (by show d.val = 3 * (d.val / 3) + d.val % 3; omega) o c _ rfl

/-- The stacked weights' last column. -/
theorem stacked_bias (r : Fin 256) : stacked (F := Ideal) x h b (ix2 r (Fin.last 576)) = b (ix2 r 0) :=
  (side_last (blocks x h) _ r).trans (shapeCast_apply b shapeCasts_S256x1_S256x1 (ix2 r (0 : Fin 1)) (ix2 r (0 : Fin 1)) rfl)

end

end Cert.Value

end
-- ==== Proof.ConvBlock.lean ====
module
public import proofs.«01_k».proof.Proof.ConvBody
public import proofs.«01_k».proof.Proof.Spec
public import Idealize.ShloMosaic.Lib.ValueLayout
public import Idealize.ShloMosaic.Lib.MatmulPlain

/-!
What one block of the convolution call holds, at an index: the sum over the nine taps and the 64 channels of a weight
times the shifted rows, and the bias.
-/

@[expose] public section

set_option maxRecDepth 16384

noncomputable section

namespace Cert.Value

open Cert.KernelIdeal Cert.KernelIdeal.Gen Cert.KernelIdeal.Conv Idealize.ShloMosaic Idealize.ShloMosaic.ValueIdx

/-- The rows that a grid point reads: channel, row, lane. -/
abbrev Rows := S64x59x128.Idx → EReal

/-- The rows laid out flat and shifted by `s` and then `t` lanes, at flat position `q`. -/
theorem shifted (v : Rows) (s t : Nat) (hs : S64x7552.Slices ![0, s] S64x7424) (ht : S64x7424.Slices ![0, t] S64x7168)
    (c : Fin 64) (q : Fin 7168) (y : Fin 59) (z : Fin 128) (h : y.val * 128 + z.val = q.val + t + s) :
    extractStridedSlice S64x7168 ![0, t]
        (truncf (F := Ideal) (φ := .f32) .bf16 (extractStridedSlice S64x7424 ![0, s] (shapeCast S64x7552 v shapeCasts_S64x59x128_S64x7552) hs) bitsLt_bf16_f32) ht (ix2 c q)
      = v (ix3 c y z) := by
  have hy := y.isLt
  have hz := z.isLt
  have ht' : t + 7168 ≤ 7424 := ht.2 1
  have hs' : s + 7424 ≤ 7552 := hs.2 1
  have hq := q.isLt
  refine (slice2_axis1_apply t _ ht c q (⟨t + q.val, by omega⟩ : Fin 7424) rfl).trans ?_
  show (extractStridedSlice S64x7424 ![0, s] (shapeCast S64x7552 v shapeCasts_S64x59x128_S64x7552) hs : S64x7424.Idx → EReal) (ix2 c _) = _
  refine (slice2_axis1_apply s _ hs c (⟨t + q.val, by omega⟩ : Fin 7424) (⟨s + (t + q.val), by omega⟩ : Fin 7552) rfl).trans ?_
  refine shapeCast_apply v _ _ (ix3 c y z) ?_
  rewrite [Shape.rowMajor_val_three, Shape.rowMajor_val_two]
  show (c.val * 59 + y.val) * 128 + z.val = c.val * 7552 + (s + (t + q.val))
  omega

/-- Nine blocks of 64 rows one above the other, and one row more. -/
abbrev stack (A : Fin 9 → (S64x7168.Idx → EReal)) (B : S1x7168.Idx → EReal) : S577x7168.Idx → EReal :=
  concatenate S577x7168 0
    [⟨S64x7168, A 0⟩, ⟨S64x7168, A 1⟩, ⟨S64x7168, A 2⟩, ⟨S64x7168, A 3⟩, ⟨S64x7168, A 4⟩, ⟨S64x7168, A 5⟩, ⟨S64x7168, A 6⟩, ⟨S64x7168, A 7⟩,
      ⟨S64x7168, A 8⟩, ⟨S1x7168, B⟩]
    concatenates_S64x7168_S64x7168_S64x7168_S64x7168_S64x7168_S64x7168_S64x7168_S64x7168_S64x7168_S1x7168_S577x7168_d0

/-- The rows one above the other, read in block `d`. -/
theorem stack_block (A : Fin 9 → (S64x7168.Idx → EReal)) (B : S1x7168.Idx → EReal) (d : Fin 9) (c : Fin 64) (k : Fin 577)
    (hk : k.val = d.val * 64 + c.val) (q : Fin 7168) : stack A B (ix2 k q) = A d (ix2 c q) := by
  have off : ∀ b : Fin S64x7168.rank, b.cast rfl ≠ (0 : Fin S577x7168.rank) → ((ix2 c q : S64x7168.Idx) b).val = ((ix2 k q : S577x7168.Idx) (b.cast rfl)).val := fun b hb => by
    match b, hb with
    | ⟨0, _⟩, hb => exact absurd rfl hb
    | ⟨1, _⟩, _ => rfl
  match d, hk with
  | ⟨0, _⟩, hk => exact concatenate_apply_piece 0 _ _ (ix2 k q) 0 (by simp) S64x7168 (A 0) rfl rfl 0 rfl (ix2 c q) off (by dsimp only at hk; show 0 + c.val = k.val; omega)
  | ⟨1, _⟩, hk => exact concatenate_apply_piece 0 _ _ (ix2 k q) 1 (by simp) S64x7168 (A 1) rfl rfl 64 rfl (ix2 c q) off (by dsimp only at hk; show 64 + c.val = k.val; omega)
  | ⟨2, _⟩, hk => exact concatenate_apply_piece 0 _ _ (ix2 k q) 2 (by simp) S64x7168 (A 2) rfl rfl 128 rfl (ix2 c q) off (by dsimp only at hk; show 128 + c.val = k.val; omega)
  | ⟨3, _⟩, hk => exact concatenate_apply_piece 0 _ _ (ix2 k q) 3 (by simp) S64x7168 (A 3) rfl rfl 192 rfl (ix2 c q) off (by dsimp only at hk; show 192 + c.val = k.val; omega)
  | ⟨4, _⟩, hk => exact concatenate_apply_piece 0 _ _ (ix2 k q) 4 (by simp) S64x7168 (A 4) rfl rfl 256 rfl (ix2 c q) off (by dsimp only at hk; show 256 + c.val = k.val; omega)
  | ⟨5, _⟩, hk => exact concatenate_apply_piece 0 _ _ (ix2 k q) 5 (by simp) S64x7168 (A 5) rfl rfl 320 rfl (ix2 c q) off (by dsimp only at hk; show 320 + c.val = k.val; omega)
  | ⟨6, _⟩, hk => exact concatenate_apply_piece 0 _ _ (ix2 k q) 6 (by simp) S64x7168 (A 6) rfl rfl 384 rfl (ix2 c q) off (by dsimp only at hk; show 384 + c.val = k.val; omega)
  | ⟨7, _⟩, hk => exact concatenate_apply_piece 0 _ _ (ix2 k q) 7 (by simp) S64x7168 (A 7) rfl rfl 448 rfl (ix2 c q) off (by dsimp only at hk; show 448 + c.val = k.val; omega)
  | ⟨8, _⟩, hk => exact concatenate_apply_piece 0 _ _ (ix2 k q) 8 (by simp) S64x7168 (A 8) rfl rfl 512 rfl (ix2 c q) off (by dsimp only at hk; show 512 + c.val = k.val; omega)

/-- The rows one above the other, read in the last one. -/
theorem stack_last (A : Fin 9 → (S64x7168.Idx → EReal)) (B : S1x7168.Idx → EReal) (q : Fin 7168) :
    stack A B (ix2 (Fin.last 576) q) = B (ix2 0 q) := by
  refine concatenate_apply_piece 0 _ _ (ix2 (Fin.last 576) q) 9 (by simp) S1x7168 B rfl rfl 576 rfl (ix2 (0 : Fin 1) q) (fun b hb => ?_) rfl
  match b, hb with
  | ⟨0, _⟩, hb => exact absurd rfl hb
  | ⟨1, _⟩, _ => rfl

/-- The rows laid out flat, shifted by `s` and rounded. -/
abbrev lanes (v : Rows) (s : Nat) (hs : S64x7552.Slices ![0, s] S64x7424) : S64x7424.Idx → EReal :=
  truncf (F := Ideal) (φ := .f32) .bf16 (extractStridedSlice S64x7424 ![0, s] (shapeCast S64x7552 v shapeCasts_S64x59x128_S64x7552) hs) bitsLt_bf16_f32

/-- The nine shifted copies of the rows. -/
abbrev copies9 (v : Rows) : Fin 9 → (S64x7168.Idx → EReal) :=
  ![extractStridedSlice S64x7168 ![0, 0] (lanes v 0 slices_S64x7552_o0_0_S64x7424) slices_S64x7424_o0_0_S64x7168,
    extractStridedSlice S64x7168 ![0, 0] (lanes v 1 slices_S64x7552_o0_1_S64x7424) slices_S64x7424_o0_0_S64x7168,
    extractStridedSlice S64x7168 ![0, 0] (lanes v 2 slices_S64x7552_o0_2_S64x7424) slices_S64x7424_o0_0_S64x7168,
    extractStridedSlice S64x7168 ![0, 128] (lanes v 0 slices_S64x7552_o0_0_S64x7424) slices_S64x7424_o0_128_S64x7168,
    extractStridedSlice S64x7168 ![0, 128] (lanes v 1 slices_S64x7552_o0_1_S64x7424) slices_S64x7424_o0_128_S64x7168,
    extractStridedSlice S64x7168 ![0, 128] (lanes v 2 slices_S64x7552_o0_2_S64x7424) slices_S64x7424_o0_128_S64x7168,
    extractStridedSlice S64x7168 ![0, 256] (lanes v 0 slices_S64x7552_o0_0_S64x7424) slices_S64x7424_o0_256_S64x7168,
    extractStridedSlice S64x7168 ![0, 256] (lanes v 1 slices_S64x7552_o0_1_S64x7424) slices_S64x7424_o0_256_S64x7168,
    extractStridedSlice S64x7168 ![0, 256] (lanes v 2 slices_S64x7552_o0_2_S64x7424) slices_S64x7424_o0_256_S64x7168]

/-- The nine shifted copies of the rows, one above the other, and a row of ones. -/
abbrev copiesOf (v : Rows) : S577x7168.Idx → EReal := stack (copies9 v) (broadcast S1x7168 (Scalar.ofBits (F := Ideal) .bf16 0x3F80#16))

/-- The copy of tap `d`: the rows shifted down by the tap's row and left by its column. -/
theorem copiesOf_tap (v : Rows) (d : Fin 9) (c : Fin 64) (k : Fin 577) (hk : k.val = d.val * 64 + c.val) (q : Fin 7168) (y : Fin 59) (z : Fin 128)
    (h : y.val * 128 + z.val = q.val + d.val / 3 * 128 + d.val % 3) :
    copiesOf v (ix2 k q) = v (ix3 c y z) := by
  refine (stack_block _ _ d c k hk q).trans ?_
  match d, h with
  | ⟨0, _⟩, h => exact shifted v 0 0 slices_S64x7552_o0_0_S64x7424 slices_S64x7424_o0_0_S64x7168 c q y z (by dsimp only at h; omega)
  | ⟨1, _⟩, h => exact shifted v 1 0 slices_S64x7552_o0_1_S64x7424 slices_S64x7424_o0_0_S64x7168 c q y z (by dsimp only at h; omega)
  | ⟨2, _⟩, h => exact shifted v 2 0 slices_S64x7552_o0_2_S64x7424 slices_S64x7424_o0_0_S64x7168 c q y z (by dsimp only at h; omega)
  | ⟨3, _⟩, h => exact shifted v 0 128 slices_S64x7552_o0_0_S64x7424 slices_S64x7424_o0_128_S64x7168 c q y z (by dsimp only at h; omega)
  | ⟨4, _⟩, h => exact shifted v 1 128 slices_S64x7552_o0_1_S64x7424 slices_S64x7424_o0_128_S64x7168 c q y z (by dsimp only at h; omega)
  | ⟨5, _⟩, h => exact shifted v 2 128 slices_S64x7552_o0_2_S64x7424 slices_S64x7424_o0_128_S64x7168 c q y z (by dsimp only at h; omega)
  | ⟨6, _⟩, h => exact shifted v 0 256 slices_S64x7552_o0_0_S64x7424 slices_S64x7424_o0_256_S64x7168 c q y z (by dsimp only at h; omega)
  | ⟨7, _⟩, h => exact shifted v 1 256 slices_S64x7552_o0_1_S64x7424 slices_S64x7424_o0_256_S64x7168 c q y z (by dsimp only at h; omega)
  | ⟨8, _⟩, h => exact shifted v 2 256 slices_S64x7552_o0_2_S64x7424 slices_S64x7424_o0_256_S64x7168 c q y z (by dsimp only at h; omega)

/-- The row of ones. -/
theorem copiesOf_one (v : Rows) (q : Fin 7168) : copiesOf v (ix2 (Fin.last 576) q) = 1 := by
  refine (stack_last _ _ q).trans ?_
  show Ideal.ofBits .bf16 0x3F80#16 = 1
  simp [Ideal.ofBits, Ideal.ieee, -EReal.coe_mul]; norm_num

/-- A sum over the 577 columns: over the taps and the channels, and the last one. -/
theorem sum_columns (f : Fin 577 → EReal) :
    ∑ k, f k = ∑ d : Fin 9, ∑ c : Fin 64, f ⟨d.val * 64 + c.val, by omega⟩ + f (Fin.last 576) := by
  rw [Fin.sum_univ_castSucc]
  refine congrArg (· + f (Fin.last 576)) ?_
  rw [← (finProdFinEquiv (m := 9) (n := 64)).sum_comp (fun k : Fin 576 => f k.castSucc), Fintype.sum_prod_type]
  refine Finset.sum_congr rfl fun d _ => Finset.sum_congr rfl fun c _ => congrArg f (Fin.ext ?_)
  show c.val + 64 * d.val = d.val * 64 + c.val
  omega

/-- The product of the stacked weights with the copies, at row `r`, image row `i` and image column `j`. -/
theorem product_at (v : Rows) (a : S256x577.Idx → EReal) (r : Fin 256) (i : Fin 56) (j : Fin 112) :
    k1_pay3 (F := Ideal) v a (ix2 r (⟨i.val * 128 + j.val, by omega⟩ : Fin 7168))
      = ∑ d : Fin 9, ∑ c : Fin 64, a (ix2 r (⟨d.val * 64 + c.val, by omega⟩ : Fin 577))
          * v (ix3 c (⟨i.val + d.val / 3, by omega⟩ : Fin 59) (⟨j.val + d.val % 3, by omega⟩ : Fin 128))
        + a (ix2 r (Fin.last 576)) := by
  have e : k1_pay3 (F := Ideal) v a = FloatOps.matmul (F := Ideal) (φ₁ := .bf16) (φ₂ := .bf16) (DotDims.plain 256 577 7168) none
      (shapeCast S256x577 a shapeCasts_S256x577_S256x577) (copiesOf v) (constant (F := Ideal) S256x7168 .f32 0x00000000#32) := rfl
  rw [e, Ideal.matmul_plain_apply, show (constant (F := Ideal) S256x7168 .f32 0x00000000#32 : S256x7168.Idx → EReal) (ix2 r _) = 0 from by
    show Ideal.ofBits .f32 0x00000000#32 = 0
    simp [Ideal.ofBits, Ideal.ieee], zero_add, sum_columns]
  have ha : ∀ k : Fin 577, shapeCast S256x577 a shapeCasts_S256x577_S256x577 (ix2 r k) = a (ix2 r k) := fun k => shapeCast_apply a _ _ _ rfl
  refine congrArg₂ (· + ·) (Finset.sum_congr rfl fun d _ => Finset.sum_congr rfl fun c _ => ?_) ?_
  · rw [ha, copiesOf_tap v d c _ rfl _ (⟨i.val + d.val / 3, by omega⟩ : Fin 59) (⟨j.val + d.val % 3, by omega⟩ : Fin 128)
      (by show (i.val + d.val / 3) * 128 + (j.val + d.val % 3) = i.val * 128 + j.val + d.val / 3 * 128 + d.val % 3; omega)]
  · rw [ha, copiesOf_one, mul_one]

/-- Row `n` of the product fits. -/
theorem rowPiece_slices (n : Fin 56) : S256x7168.Slices ![0, 128 * n.val] S256x112 := ⟨rfl, fun a => by
  match a with
  | ⟨0, _⟩ => exact le_refl 256
  | ⟨1, _⟩ => show 128 * n.val + 112 ≤ 7168; omega⟩

/-- Image row `n` of the product. -/
abbrev rowPiece (y : S256x7168.Idx → EReal) (n : Fin 56) : S256x112.Idx → EReal :=
  extractStridedSlice S256x112 ![0, 128 * n.val] y (rowPiece_slices n)

/-- The 56 rows of the product, their spare lanes dropped, end to end. -/
def rowsOf (y : S256x7168.Idx → EReal) : S256x6272.Idx → EReal :=
  k1_pay16 (F := Ideal) y (rowPiece y 0) (rowPiece y 1) (rowPiece y 2) (rowPiece y 3) (rowPiece y 4) (rowPiece y 5) (rowPiece y 6) (rowPiece y 7)
    (rowPiece y 8) (rowPiece y 9) (rowPiece y 10) (rowPiece y 11)

/-- The pieces that `rowsOf` joins are the rows in order. -/
theorem rowsOf_eq (y : S256x7168.Idx → EReal) :
    ∃ hc, rowsOf y = concatenate S256x6272 1 (List.ofFn fun n : Fin 56 => (⟨S256x112, rowPiece y n⟩ : (s : Shape) × (s.Idx → EReal))) hc :=
  ⟨concatenates_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x112_S256x6272_d1, rfl⟩

/-- The joined rows at row `i` and image column `j`. -/
theorem rowsOf_apply (y : S256x7168.Idx → EReal) (r : Fin 256) (i : Fin 56) (j : Fin 112) (q : Fin 6272) (hq : q.val = i.val * 112 + j.val) :
    rowsOf y (ix2 r q) = y (ix2 r (⟨i.val * 128 + j.val, by omega⟩ : Fin 7168)) := by
  obtain ⟨hc, e⟩ := rowsOf_eq y
  rw [e]
  refine (concatenate_ofFn_apply (1 : Fin S256x6272.rank) (rowPiece y) hc rfl 112 rfl (ix2 r q) i ?_ (ix2 r j) ?_ ?_).trans ?_
  · show q.val / 112 = i.val
    omega
  · show j.val = q.val % 112
    omega
  · intro b hb
    match b, hb with
    | ⟨0, _⟩, _ => rfl
    | ⟨1, _⟩, hb => exact absurd rfl hb
  · exact slice2_axis1_apply _ _ _ r j _ (by show i.val * 128 + j.val = 128 * i.val + j.val; omega)

/-- The block of the given weights' convolution. -/
theorem rawBlock_at (v : Rows) (a : S256x577.Idx → EReal) (o : Fin 128) (i : Fin 56) (j : Fin 112) (q : Fin 6272) (hq : q.val = i.val * 112 + j.val) :
    rawBlock (F := Ideal) v a (ix3 (0 : Fin 1) o q) = k1_pay3 (F := Ideal) v a (ix2 (⟨o.val, by omega⟩ : Fin 256) (⟨i.val * 128 + j.val, by omega⟩ : Fin 7168)) := by
  have e : rawBlock (F := Ideal) v a = shapeCast S1x128x6272 (extractStridedSlice S128x6272 ![0, 0] (rowsOf (k1_pay3 (F := Ideal) v a)) slices_S256x6272_o0_0_S128x6272) shapeCasts_S128x6272_S1x128x6272 := rfl
  rw [e]
  refine (shapeCast_ab_1ab_apply _ _ 0 o q).trans ?_
  refine (extractStridedSlice_apply _ _ _ _ (ix2 (⟨o.val, by omega⟩ : Fin 256) q) fun b => ?_).trans (rowsOf_apply _ _ i j q hq)
  match b with
  | ⟨0, _⟩ => show o.val = 0 + o.val; omega
  | ⟨1, _⟩ => show q.val = 0 + q.val; omega

/-- The block of the replaced weights' convolution. -/
theorem hashBlock_at (v : Rows) (a : S256x577.Idx → EReal) (o : Fin 128) (i : Fin 56) (j : Fin 112) (q : Fin 6272) (hq : q.val = i.val * 112 + j.val) :
    hashBlock (F := Ideal) v a (ix3 (0 : Fin 1) o q) = k1_pay3 (F := Ideal) v a (ix2 (⟨128 + o.val, by omega⟩ : Fin 256) (⟨i.val * 128 + j.val, by omega⟩ : Fin 7168)) := by
  have e : hashBlock (F := Ideal) v a = shapeCast S1x128x6272 (extractStridedSlice S128x6272 ![128, 0] (rowsOf (k1_pay3 (F := Ideal) v a)) slices_S256x6272_o128_0_S128x6272) shapeCasts_S128x6272_S1x128x6272 := rfl
  rw [e]
  refine (shapeCast_ab_1ab_apply _ _ 0 o q).trans ?_
  refine (extractStridedSlice_apply _ _ _ _ (ix2 (⟨128 + o.val, by omega⟩ : Fin 256) q) fun b => ?_).trans (rowsOf_apply _ _ i j q hq)
  match b with
  | ⟨0, _⟩ => rfl
  | ⟨1, _⟩ => show q.val = 0 + q.val; omega

/-! ## The rows of the padded image -/

/-- A cleared entry is zero. -/
theorem cleared (k : S64x117x128.Idx) : k1_pay1 (F := Ideal) k = (0 : EReal) := by
  unfold k1_pay1
  refine (shapeCast_apply _ _ k k rfl).trans ?_
  show Ideal.ofBits .f32 0x00000000#32 = 0
  simp [Ideal.ofBits, Ideal.ieee]

/-- The padded image at a channel, a row and a lane: the image inside the border of one, zero outside. -/
theorem padded_at (x : S1x64x112x112.Idx → EReal) (X : Images) (n : Fin 32) (hx : ∀ c y z, x (ix4 0 c y z) = X (ix4 n c y z))
    (c : Fin 64) (y : Fin 117) (z : Fin 128) : padded (F := Ideal) x (ix3 c y z) = padAt X n c y.val z.val := by
  unfold padAt
  by_cases h : (1 ≤ y.val ∧ y.val ≤ 112) ∧ (1 ≤ z.val ∧ z.val ≤ 112)
  · rw [dif_pos h]
    let k : S64x112x112.Idx := ix3 c (⟨y.val - 1, by omega⟩ : Fin 112) (⟨z.val - 1, by omega⟩ : Fin 112)
    have hk : (ix3 c y z : S64x117x128.Idx) = inner.emb k := by
      funext a
      refine Fin.ext ?_
      match a with
      | ⟨0, _⟩ => show c.val = 0 + 1 * c.val; omega
      | ⟨1, _⟩ => show y.val = 1 + 1 * (y.val - 1); omega
      | ⟨2, _⟩ => show z.val = 1 + 1 * (z.val - 1); omega
    rw [hk]
    refine (Rect.overlay_emb inner _ _ k).trans ?_
    unfold k1_pay2
    refine (shapeCast_apply _ _ k k rfl).trans ?_
    exact (shapeCast_1abc_abc_apply _ _ _ _ _).trans (hx _ _ _)
  · rw [dif_neg h]
    refine (Rect.overlay_of_not_mem inner _ _ fun hm => h ?_).trans (cleared _)
    have hm' := Rect.mem_set_unit.mp hm
    have h1 : 1 ≤ y.val ∧ y.val < 1 + 112 := hm' 1
    have h2 : 1 ≤ z.val ∧ z.val < 1 + 112 := hm' 2
    omega

/-- The first row a grid point reads. -/
theorem row_offset (i : grid1.Coords) : k1_off1 i 1 = 56 * (i 1).val := by
  have h : ∀ k : Fin 2, (Scalar.indexCast (Scalar.muli (BitVec.ofNat 32 k.val) 56#32)).toNat = 56 * k.val := by decide
  exact h (i 1)

/-- The rows a grid point of row block `i 1` reads. -/
theorem rows_at (i : grid1.Coords) (p : S64x117x128.Idx → EReal) (c : Fin 64) (y : Fin 59) (z : Fin 128) :
    rows (F := Ideal) i p (ix3 c y z) = p (ix3 c (⟨56 * (i 1).val + y.val, by have h : (i 1).val < 2 := (i 1).isLt; omega⟩ : Fin 117) z) := by
  unfold rows
  have e := View.ld_unit (Val := Elt Ideal) (e := .f32) (S := S64x117x128) p (k1_off1 i) S64x59x128.size (k1_off1_inb i)
  refine (congrFun e (ix3 c y z)).trans ?_
  refine extractStridedSlice_apply _ _ _ _ _ fun a => ?_
  have h : (i 1).val < 2 := (i 1).isLt
  match a with
  | ⟨0, _⟩ => show c.val = 0 + c.val; omega
  | ⟨1, _⟩ => exact congrArg (· + y.val) (row_offset i).symm
  | ⟨2, _⟩ => show z.val = 0 + z.val; omega

end Cert.Value

end
-- ==== Proof.Arrays.lean ====
module
public import proofs.«01_k».proof.Proof.Whole
public import proofs.«01_k».proof.Proof.Stacked
public import proofs.«01_k».proof.Proof.ConvBlock
public import Idealize.ShloMosaic.Lib.Pipeline.ValueKit.Geometry

/-!
What the buffers hold along the kernel's run, at an index: the operands of the two calls, the stacked weights the first
call leaves, and the two convolutions the second one leaves.
-/

@[expose] public section

set_option maxRecDepth 16384

noncomputable section

namespace Cert.Value

open Cert.KernelIdeal Cert.KernelIdeal.Gen Cert.KernelIdeal.Conv Idealize.ShloMosaic Idealize.ShloMosaic.ValueIdx
open Idealize.ShloMosaic.TcCoe
open Cert.KernelIdeal.Whole (W0 W1 W2 W3 W4)

/-! ## One block of the convolution call -/

/-- A block's entry: the convolution at the row and the column the entry stands for. -/
theorem block_value (x : S1x64x112x112.Idx → EReal) (X : Images) (n : Fin 32) (hx : ∀ c y z, x (ix4 0 c y z) = X (ix4 n c y z))
    (a : S256x577.Idx → EReal) (w : Weights) (b : EReal) (r : Fin 256) (o : Fin 128)
    (ha : ∀ (d : Fin 9) (c : Fin 64), a (ix2 r (tapColumn d c)) = w (ix4 o c (tapRow d) (tapCol d))) (hb : a (ix2 r (Fin.last 576)) = b)
    (i : grid1.Coords) (p : Fin 56) (j : Fin 112) :
    k1_pay3 (F := Ideal) (rows (F := Ideal) i (padded (F := Ideal) x)) a (ix2 r (⟨p.val * 128 + j.val, by omega⟩ : Fin 7168))
      = convAt X w b n o (56 * (i 1).val + p.val) j.val := by
  rw [product_at, hb]
  unfold convAt tapAt
  refine congrArg (· + b) (Finset.sum_congr rfl fun d _ => Finset.sum_congr rfl fun c _ => ?_)
  rw [rows_at, padded_at x X n hx, mul_comm]
  refine congrArg₂ (· * ·) ?_ (ha d c)
  show padAt X n c (56 * (i 1).val + (p.val + d.val / 3)) _ = _
  rw [Nat.add_assoc]

/-! ## The grid of the convolution call -/

/-- The two coordinates of a point: the image and the half of its rows. -/
theorem coords_1 : ∀ t : Fin grid1.N, (grid1.coords t 0).val = t.val / 2 ∧ (grid1.coords t 1).val = t.val % 2 := by decide +kernel

/-- The block of the images a point reads. -/
theorem index_1 : ∀ t : Fin grid1.N, win1_1.index t = ![t.val / 2, 0, 0, 0] := by decide +kernel
/-- The block of the first result a point writes. -/
theorem index_2 : ∀ t : Fin grid1.N, win1_2.index t = ![t.val / 2, 0, t.val % 2] := by decide +kernel
/-- The block of the second result a point writes. -/
theorem index_3 : ∀ t : Fin grid1.N, win1_3.index t = ![t.val / 2, 0, t.val % 2] := by decide +kernel
/-- The block of the stacked weights a point reads. -/
theorem index_0 : ∀ t : Fin grid1.N, win1_0.index t = ![0, 0] := by decide +kernel

section

variable (V : Dev nD → Valuation τ sig (Elt Ideal)) (c : Dev nD)

/-- The stacked weights, whole, are what a point reads. -/
theorem weights_at (t : Fin cfg1.N) (k : S256x577.Idx) : weights (F := Ideal) V c t k = V c main_v5 k := by
  refine congrArg (V c main_v5 : S256x577.Idx → EReal) (funext fun a => Fin.ext ?_)
  refine (win1_0.rect_emb_val t k a).trans ?_
  rw [index_0]
  match a with
  | ⟨0, _⟩ => show 0 * 256 + (k 0).val = (k 0).val; omega
  | ⟨1, _⟩ => show 0 * 577 + (k 1).val = (k 1).val; omega

/-- The image a point reads. -/
theorem image_at (t : Fin cfg1.N) (n : Fin 32) (hn : n.val = t.val / 2) (ch : Fin 64) (y z : Fin 112) :
    image (F := Ideal) V c t (ix4 0 ch y z) = (V c main_arg0 : Images) (ix4 n ch y z) := by
  refine congrArg (V c main_arg0 : Images) (funext fun a => Fin.ext ?_)
  refine (win1_1.rect_emb_val t (ix4 (0 : Fin 1) ch y z) a).trans ?_
  rw [index_1]
  match a with
  | ⟨0, _⟩ => show t.val / 2 * 1 + 0 = n.val; omega
  | ⟨1, _⟩ => show 0 * 64 + ch.val = ch.val; omega
  | ⟨2, _⟩ => show 0 * 112 + y.val = y.val; omega
  | ⟨3, _⟩ => show 0 * 112 + z.val = z.val; omega

/-- The convolution with weights `w` and biases `b`, its rows laid out flat. -/
def flatConv (X : Images) (w : Weights) (b : Fin 128 → EReal) : S32x128x12544.Idx → EReal := fun i =>
  convAt X w (b (i 1)) (i 0) (i 1) ((i 2).val / 112) ((i 2).val % 112)

/-- The flat convolution at image `n`, channel `o` and the position a block's entry stands at. -/
theorem flatConv_at (X : Images) (w : Weights) (b : Fin 128 → EReal) (n : Fin 32) (o : Fin 128) (s : Fin 12544) (h p j : Nat)
    (hj : j < 112) (hs : s.val = h * 6272 + (p * 112 + j)) :
    flatConv X w b (ix3 n o s) = convAt X w (b o) n o (56 * h + p) j := by
  show convAt X w (b o) n o (s.val / 112) (s.val % 112) = _
  rw [show s.val / 112 = 56 * h + p by omega, show s.val % 112 = j by omega]

/-- The first result: the convolution with the given weights. -/
theorem first_array (w : Weights) (b : Fin 128 → EReal)
    (ha : ∀ o d ch, (V c main_v5 : S256x577.Idx → EReal) (ix2 (upper o) (tapColumn d ch)) = w (ix4 o ch (tapRow d) (tapCol d)))
    (hb : ∀ o, (V c main_v5 : S256x577.Idx → EReal) (ix2 (upper o) (Fin.last 576)) = b o) :
    (Conv.dat (F := Ideal) V c).arrAt 2 cfg1.N = flatConv (V c main_arg0) w b := by
  refine (Conv.dat (F := Ideal) V c).arrAt_eq_of_covers 2 _ (by decide +kernel) fun t _ y => ?_
  obtain ⟨u, o, q, rfl⟩ : ∃ (u : Fin 1) (o : Fin 128) (q : Fin 6272), y = ix3 u o q := ⟨y 0, y 1, y 2, eq_ix3 y⟩
  obtain rfl : u = 0 := Subsingleton.elim _ _
  have ht : t.val < 64 := t.isLt
  have hq := q.isLt
  have e : (((cfg1.win 2).blk t).view.emb (ix3 (0 : Fin 1) o q) : S32x128x12544.Idx)
      = ix3 (⟨t.val / 2, by omega⟩ : Fin 32) o (⟨t.val % 2 * 6272 + q.val, by omega⟩ : Fin 12544) := by
    funext a
    refine Fin.ext ((win1_2.rect_emb_val t (ix3 (0 : Fin 1) o q) a).trans ?_)
    rw [index_2]
    match a with
    | ⟨0, _⟩ => show t.val / 2 * 1 + 0 = t.val / 2; omega
    | ⟨1, _⟩ => show 0 * 128 + o.val = o.val; omega
    | ⟨2, _⟩ => rfl
  rw [e]
  refine Eq.trans ?_ (flatConv_at _ w b _ o _ (t.val % 2) (q.val / 112) (q.val % 112) (Nat.mod_lt _ (by omega))
    (by show t.val % 2 * 6272 + q.val = t.val % 2 * 6272 + (q.val / 112 * 112 + q.val % 112); omega)).symm
  show rawBlock (F := Ideal) (rowsAt V c t) (weights V c t) (ix3 (0 : Fin 1) o q) = _
  rw [rawBlock_at _ _ o (⟨q.val / 112, by omega⟩ : Fin 56) (⟨q.val % 112, Nat.mod_lt _ (by omega)⟩ : Fin 112) q
    (by show q.val = q.val / 112 * 112 + q.val % 112; omega)]
  rw [← (coords_1 t).2]
  exact block_value _ _ _ (image_at V c t _ rfl) _ w (b o) (upper o) o (fun d ch => (weights_at V c t _).trans (ha o d ch))
    ((weights_at V c t _).trans (hb o)) (grid1.coords t) _ _

/-- The second result: the convolution with the replaced weights. -/
theorem second_array (w : Weights) (b : Fin 128 → EReal)
    (ha : ∀ o d ch, (V c main_v5 : S256x577.Idx → EReal) (ix2 (lower o) (tapColumn d ch)) = w (ix4 o ch (tapRow d) (tapCol d)))
    (hb : ∀ o, (V c main_v5 : S256x577.Idx → EReal) (ix2 (lower o) (Fin.last 576)) = b o) :
    (Conv.dat (F := Ideal) V c).arrAt 3 cfg1.N = flatConv (V c main_arg0) w b := by
  refine (Conv.dat (F := Ideal) V c).arrAt_eq_of_covers 3 _ (by decide +kernel) fun t _ y => ?_
  obtain ⟨u, o, q, rfl⟩ : ∃ (u : Fin 1) (o : Fin 128) (q : Fin 6272), y = ix3 u o q := ⟨y 0, y 1, y 2, eq_ix3 y⟩
  obtain rfl : u = 0 := Subsingleton.elim _ _
  have ht : t.val < 64 := t.isLt
  have hq := q.isLt
  have e : (((cfg1.win 3).blk t).view.emb (ix3 (0 : Fin 1) o q) : S32x128x12544.Idx)
      = ix3 (⟨t.val / 2, by omega⟩ : Fin 32) o (⟨t.val % 2 * 6272 + q.val, by omega⟩ : Fin 12544) := by
    funext a
    refine Fin.ext ((win1_3.rect_emb_val t (ix3 (0 : Fin 1) o q) a).trans ?_)
    rw [index_3]
    match a with
    | ⟨0, _⟩ => show t.val / 2 * 1 + 0 = t.val / 2; omega
    | ⟨1, _⟩ => show 0 * 128 + o.val = o.val; omega
    | ⟨2, _⟩ => rfl
  rw [e]
  refine Eq.trans ?_ (flatConv_at _ w b _ o _ (t.val % 2) (q.val / 112) (q.val % 112) (Nat.mod_lt _ (by omega))
    (by show t.val % 2 * 6272 + q.val = t.val % 2 * 6272 + (q.val / 112 * 112 + q.val % 112); omega)).symm
  show hashBlock (F := Ideal) (rowsAt V c t) (weights V c t) (ix3 (0 : Fin 1) o q) = _
  rw [hashBlock_at _ _ o (⟨q.val / 112, by omega⟩ : Fin 56) (⟨q.val % 112, Nat.mod_lt _ (by omega)⟩ : Fin 112) q
    (by show q.val = q.val / 112 * 112 + q.val % 112; omega)]
  rw [← (coords_1 t).2]
  exact block_value _ _ _ (image_at V c t _ rfl) _ w (b o) (lower o) o (fun d ch => (weights_at V c t _).trans (ha o d ch))
    ((weights_at V c t _).trans (hb o)) (grid1.coords t) _ _

/-! ## The hashing call -/

/-- The first operand, whole. -/
theorem operand0_eq : Hash.operand0 (F := Ideal) V c = V c main_v1 := by
  funext k
  refine congrArg (V c main_v1 : S9x128x64.Idx → EReal) (funext fun a => Fin.ext ?_)
  exact win0_0.rect_emb_val_of_index_zero t0_0 a (by revert a; decide) k

/-- The second operand, whole. -/
theorem operand1_eq : Hash.operand1 (F := Ideal) V c = V c main_v4 := by
  funext k
  refine congrArg (V c main_v4 : S1x16.Idx → EReal) (funext fun a => Fin.ext ?_)
  exact win0_1.rect_emb_val_of_index_zero t0_0 a (by revert a; decide) k

/-- The third operand, whole. -/
theorem operand2_eq : Hash.operand2 (F := Ideal) V c = V c main_v3 := by
  funext k
  refine congrArg (V c main_v3 : S256x1.Idx → EReal) (funext fun a => Fin.ext ?_)
  exact win0_2.rect_emb_val_of_index_zero t0_0 a (by revert a; decide) k

/-- The hashing call's array at the end: its result. -/
theorem stacked_array : (Hash.dat (F := Ideal) V c).arrAt 3 cfg0.N = Hash.result (F := Ideal) V c := by
  refine (Hash.dat (F := Ideal) V c).arrAt_eq_of_after_last 3 t0_0 (by decide +kernel) _ fun j => ?_
  rfl

end

end Cert.Value

end
-- ==== Proof.KernelValue.lean ====
module
public import proofs.«01_k».proof.Proof.Arrays
public import Idealize.ShloMosaic.Lib.StableHlo.Run
public import Idealize.ShloMosaic.Lib.ValueLayoutCasts

/-!
The kernel's two results, at an index, from the launch memory: the convolution with the given weights and the one with
the replaced weights.
-/

@[expose] public section

set_option maxRecDepth 16384

noncomputable section

namespace Cert.Value

open Cert.KernelIdeal Cert.KernelIdeal.Gen Idealize.ShloMosaic Idealize.ShloMosaic.ValueIdx
open Idealize.ShloMosaic.TcCoe Idealize.ShloMosaic.StableHlo
open Cert.KernelIdeal.Whole (W0 W1 W2 W3 W4)

variable (m : (ℓ : Loc nD τ sig) → Buf (Elt Ideal) ℓ) (c : Dev nD)

/-- The images. -/
abbrev argX : Images := m ((c.tc : Thread nD τ).loc main_arg0)
/-- The weights. -/
abbrev argW : Weights := m ((c.tc : Thread nD τ).loc main_arg1)
/-- The first convolution's biases. -/
abbrev argB : Biases := m ((c.tc : Thread nD τ).loc main_arg2)
/-- The second convolution's biases. -/
abbrev argB' : Biases := m ((c.tc : Thread nD τ).loc main_arg3)
/-- The table of hashed weights. -/
abbrev argH : S16.Idx → EReal := m ((c.tc : Thread nD τ).loc main_arg4)

/-! ## Before the calls -/

/-- The weights as the hashing call gets them: the taps first. -/
theorem taps_eq : (W1 m c main_v1 : Taps)
    = shapeCast S9x128x64 (transpose S3x3x128x64 [2, 3, 0, 1] (argW m c) transposes_S128x64x3x3_S3x3x128x64_2_3_0_1) shapeCasts_S3x3x128x64_S9x128x64 := by
  show after hostOps0 (W0 m c) (main_v1 : DevRef τ sig) = _
  after_results_simp
  rfl

/-- The biases as the hashing call gets them: the first above the second. -/
theorem biases_eq : (W1 m c main_v3 : S256x1.Idx → EReal)
    = shapeCast S256x1 (concatenate S256 0 [⟨S128, argB m c⟩, ⟨S128, argB' m c⟩] concatenates_S128_S128_S256_d0) shapeCasts_S256_S256x1 := by
  show after hostOps0 (W0 m c) (main_v3 : DevRef τ sig) = _
  after_results_simp
  rfl

/-- The table as the hashing call gets it: one row. -/
theorem table_eq : (W1 m c main_v4 : S1x16.Idx → EReal) = shapeCast S1x16 (argH m c) shapeCasts_S16_S1x16 := by
  show after hostOps0 (W0 m c) (main_v4 : DevRef τ sig) = _
  after_results_simp
  rfl

/-- The weight of tap `d`. -/
theorem taps_at (d : Fin 9) (o : Fin 128) (ch : Fin 64) :
    (W1 m c main_v1 : Taps) (ix3 d o ch) = argW m c (ix4 o ch (tapRow d) (tapCol d)) := by
  rw [taps_eq]
  refine (shapeCast_apply _ _ _ (ix4 (tapRow d) (tapCol d) o ch) ?_).trans (transpose_apply _ _ _ _ _ fun a => ?_)
  · rewrite [Shape.rowMajor_val_four, Shape.rowMajor_val_three]
    show ((d.val / 3 * 3 + d.val % 3) * 128 + o.val) * 64 + ch.val = (d.val * 128 + o.val) * 64 + ch.val
    omega
  · match a with
    | ⟨0, _⟩ => rfl
    | ⟨1, _⟩ => rfl
    | ⟨2, _⟩ => rfl
    | ⟨3, _⟩ => rfl

/-- The bias of an upper row. -/
theorem biases_upper (o : Fin 128) : (W1 m c main_v3 : S256x1.Idx → EReal) (ix2 (upper o) 0) = argB m c (ix1 o) := by
  rw [biases_eq]
  refine (shapeCast_a_a1_apply _ _ _ _).trans ?_
  refine concatenate_apply_piece 0 _ _ (ix1 (upper o)) 0 (by simp) S128 (argB m c) rfl rfl 0 rfl (ix1 o) (fun b hb => ?_) (by show 0 + o.val = o.val; omega)
  match b, hb with
  | ⟨0, _⟩, hb => exact absurd rfl hb

/-- The bias of a lower row. -/
theorem biases_lower (o : Fin 128) : (W1 m c main_v3 : S256x1.Idx → EReal) (ix2 (lower o) 0) = argB' m c (ix1 o) := by
  rw [biases_eq]
  refine (shapeCast_a_a1_apply _ _ _ _).trans ?_
  refine concatenate_apply_piece 0 _ _ (ix1 (lower o)) 1 (by simp) S128 (argB' m c) rfl rfl 128 rfl (ix1 o) (fun b hb => ?_) rfl
  match b, hb with
  | ⟨0, _⟩, hb => exact absurd rfl hb

/-- The table's entries. -/
theorem table_at (k : Fin 16) : (W1 m c main_v4 : S1x16.Idx → EReal) (ix2 0 k) = argH m c (ix1 k) := by
  rw [table_eq]
  refine shapeCast_apply _ _ _ (ix1 k) ?_
  rewrite [Shape.rowMajor_val_one, Shape.rowMajor_val_two]
  show k.val = 0 * 16 + k.val
  omega

/-! ## Between the calls -/

/-- The stacked weights after the hashing call. -/
theorem stacked_eq : (W2 m c main_v5 : S256x577.Idx → EReal)
    = Hash.stacked (F := Ideal) (W1 m c main_v1) (W1 m c main_v4) (W1 m c main_v3) := by
  rw [← operand0_eq (W1 m) c, ← operand1_eq (W1 m) c, ← operand2_eq (W1 m) c]
  exact (Pipeline.afterRegion_arr (Hash.dat (W1 m) c) (W1 m c) launch0.win.arr_inj 3).trans (stacked_array (W1 m) c)

/-- The images are as launched. -/
theorem images_eq : (W2 m c main_arg0 : Images) = argX m c :=
  (Pipeline.afterRegion_keeps (Hash.dat (W1 m) c) (W1 m c) launch0.win.arr_inj (fun _ => rfl) main_arg0 (by decide)).trans
    (StableHlo.after_of_writes_sub hostOps0 _ hostOps0_writes (by decide))

/-- The replaced weights. -/
abbrev newWeights : Weights := hashedWeights (argW m c) fun k => argH m c (ix1 k)

/-- The first result after the convolution call. -/
theorem first_flat : (W3 m c main_v6_0 : S32x128x12544.Idx → EReal) = flatConv (argX m c) (argW m c) fun o => argB m c (ix1 o) := by
  rw [← images_eq m c]
  refine (Pipeline.afterRegion_arr (Conv.dat (W2 m) c) (W2 m c) launch1.win.arr_inj 2).trans (first_array (W2 m) c _ _ (fun o d ch => ?_) fun o => ?_)
  · rw [stacked_eq, stacked_upper, taps_at]
  · rw [stacked_eq, stacked_bias, biases_upper]

/-- The second result after the convolution call. -/
theorem second_flat : (W3 m c main_v6_1 : S32x128x12544.Idx → EReal) = flatConv (argX m c) (newWeights m c) fun o => argB' m c (ix1 o) := by
  rw [← images_eq m c]
  refine (Pipeline.afterRegion_arr (Conv.dat (W2 m) c) (W2 m c) launch1.win.arr_inj 3).trans (second_array (W2 m) c _ _ (fun o d ch => ?_) fun o => ?_)
  · rw [stacked_eq, stacked_lower, call_hashed _ (argW m c) (taps_at m c)]
    rw [show (fun k : Fin 16 => (W1 m c main_v4 : S1x16.Idx → EReal) (ix2 0 k)) = fun k => argH m c (ix1 k) from funext (table_at m c)]
  · rw [stacked_eq, stacked_bias, biases_lower]

/-! ## After the calls -/

/-- The flat rows folded back into an image. -/
theorem fold_at (X : Images) (w : Weights) (b : Fin 128 → EReal) (n : Fin 32) (o : Fin 128) (i j : Fin 112) :
    shapeCast S32x128x112x112 (flatConv X w b) shapeCasts_S32x128x12544_S32x128x112x112 (ix4 n o i j) = convAt X w (b o) n o i.val j.val := by
  refine (shapeCast_apply _ _ _ (ix3 n o (⟨i.val * 112 + j.val, by omega⟩ : Fin 12544)) ?_).trans ?_
  · rewrite [Shape.rowMajor_val_four, Shape.rowMajor_val_three]
    show (n.val * 128 + o.val) * 12544 + (i.val * 112 + j.val) = ((n.val * 128 + o.val) * 112 + i.val) * 112 + j.val
    omega
  · show convAt X w (b o) n o ((i.val * 112 + j.val) / 112) ((i.val * 112 + j.val) % 112) = _
    rw [show (i.val * 112 + j.val) / 112 = i.val by omega, show (i.val * 112 + j.val) % 112 = j.val by omega]

/-- The first result at the end. -/
theorem kernel_first (n : Fin 32) (o : Fin 128) (i j : Fin 112) :
    (W4 m c main_v7 : S32x128x112x112.Idx → EReal) (ix4 n o i j) = convAt (argX m c) (argW m c) (argB m c (ix1 o)) n o i.val j.val := by
  have e : (W4 m c main_v7 : S32x128x112x112.Idx → EReal) = shapeCast S32x128x112x112 (W3 m c main_v6_0 : S32x128x12544.Idx → EReal) shapeCasts_S32x128x12544_S32x128x112x112 := by
    show after hostOps2 (W3 m c) (main_v7 : DevRef τ sig) = _
    after_results_simp
    rfl
  rw [e, first_flat, fold_at]

/-- The second result at the end. -/
theorem kernel_second (n : Fin 32) (o : Fin 128) (i j : Fin 112) :
    (W4 m c main_v8 : S32x128x112x112.Idx → EReal) (ix4 n o i j) = convAt (argX m c) (newWeights m c) (argB' m c (ix1 o)) n o i.val j.val := by
  have e : (W4 m c main_v8 : S32x128x112x112.Idx → EReal) = shapeCast S32x128x112x112 (W3 m c main_v6_1 : S32x128x12544.Idx → EReal) shapeCasts_S32x128x12544_S32x128x112x112 := by
    show after hostOps2 (W3 m c) (main_v8 : DevRef τ sig) = _
    after_results_simp
    rfl
  rw [e, second_flat, fold_at]

end Cert.Value

end
-- ==== Proof.RefValue.lean ====
module
public import proofs.«01_k».proof.Proof.Gen.ReferenceIdeal.Read
public import proofs.«01_k».proof.Proof.Spec
public import Idealize.ShloMosaic.Lib.KernelVsHost
public import Idealize.ShloMosaic.Lib.IdealHost

/-!
What the reference computes, at an index: both its results are the convolution of `Spec.lean`, the second with the
weights replaced by their buckets' values.
-/

@[expose] public section

set_option maxRecDepth 16384

noncomputable section

namespace Cert.Value

open Cert.ReferenceIdeal Cert.ReferenceIdeal.Gen Cert.ReferenceIdeal.Read Idealize.ShloMosaic Idealize.ShloMosaic.ValueIdx

/-- The reference's padded images are the images with a border of zeros. -/
theorem ref_padded (X : Images) (n : Fin 32) (c : Fin 64) (y z : Fin 114) :
    val_main_v0 (F := Ideal) X (ix4 n c y z) = padAt X n c y.val z.val := by
  unfold val_main_v0 padAt
  by_cases h : (1 ≤ y.val ∧ y.val ≤ 112) ∧ (1 ≤ z.val ∧ z.val ≤ 112)
  · rw [dif_pos h]
    refine pad_apply_of_inside _ _ _ _ _ _ _ _ _ fun a => ?_
    match a with
    | ⟨0, _⟩ => show n.val = 0 + n.val * 1; omega
    | ⟨1, _⟩ => show c.val = 0 + c.val * 1; omega
    | ⟨2, _⟩ => show y.val = 1 + (y.val - 1) * 1; omega
    | ⟨3, _⟩ => show z.val = 1 + (z.val - 1) * 1; omega
  · rw [dif_neg h]
    have hz : val_main_call0_v0 (F := Ideal) (Shape.Idx.first h_S_) = 0 := by
      show (((0#32).toInt : ℝ) : EReal) = 0
      simp
    by_cases hy : 1 ≤ y.val ∧ y.val ≤ 112
    · refine (pad_apply_of_not_inside _ _ _ _ _ _ _ _ ⟨3, by decide⟩ ?_).trans hz
      intro hc
      have h1 : 1 ≤ z.val := hc.1
      have h2 : (z.val - 1) / 1 < 112 := hc.2.2
      exact h ⟨hy, by omega⟩
    · refine (pad_apply_of_not_inside _ _ _ _ _ _ _ _ ⟨2, by decide⟩ ?_).trans hz
      intro hc
      have h1 : 1 ≤ y.val := hc.1
      have h2 : (y.val - 1) / 1 < 112 := hc.2.2
      exact hy (by omega)

/-- One of the reference's shifted products: a contraction over the channels, with the output channel moved to the front. -/
theorem ref_product (y0 : S32x64x112x112.Idx → EReal) (y1 : S128x64.Idx → EReal) (n : Fin 32) (o : Fin 128) (i j : Fin 112) :
    transpose S32x128x112x112 [0, 3, 1, 2]
        (Host.dotGeneral (F := Ideal) (φ₁ := .f32) (φ₂ := .f32) dot_S32x64x112x112_S128x64_S32x112x112x128_1_1_023_0_n_n none y0 y1)
        transposes_S32x112x112x128_S32x128x112x112_0_3_1_2 (ix4 n o i j)
      = ∑ c : Fin 64, y0 (ix4 n c i j) * y1 (ix2 o c) := by
  refine (transpose_apply [0, 3, 1, 2] _ _ (ix4 n o i j) (ix4 n i j o) fun b => ?_).trans ?_
  · match b with
    | ⟨0, _⟩ => rfl
    | ⟨1, _⟩ => rfl
    | ⟨2, _⟩ => rfl
    | ⟨3, _⟩ => rfl
  · simp only [Host.dotGeneral]
    rw [Ideal.dotGeneral_apply, ← Equiv.sum_comp (contrEquiv1 dot_S32x64x112x112_S128x64_S32x112x112x128_1_1_023_0_n_n 64 rfl rfl).symm]
    refine Finset.sum_congr rfl fun k _ => ?_
    have hk := contrEquiv1_symm_val dot_S32x64x112x112_S128x64_S32x112x112x128_1_1_023_0_n_n 64 rfl rfl k
    refine congrArg₂ (· * ·) (congrArg y0 (funext fun a => Fin.ext ?_)) (congrArg y1 (funext fun a => Fin.ext ?_))
    · match a with
      | ⟨0, _⟩ => exact lhs_main_v4_0 _ _
      | ⟨1, _⟩ => exact (lhs_main_v4_1 _ _).trans hk
      | ⟨2, _⟩ => exact lhs_main_v4_2 _ _
      | ⟨3, _⟩ => exact lhs_main_v4_3 _ _
    · match a with
      | ⟨0, _⟩ => exact rhs_main_v4_0 _ _
      | ⟨1, _⟩ => exact (rhs_main_v4_1 _ _).trans hk

/-- The product of tap `d`: the images shifted by the tap, against the tap's weights. -/
theorem ref_tap (X : Images) (w : Weights) (d : Fin 9) {r s : Nat} (hr : r = d.val / 3) (hs : s = d.val % 3)
    (h0 : S32x64x114x114.Slices ![0, 0, r, s] S32x64x112x112) (h1 : S128x64x3x3.Slices ![0, 0, r, s] S128x64x1x1)
    (n : Fin 32) (o : Fin 128) (i j : Fin 112) :
    transpose S32x128x112x112 [0, 3, 1, 2]
        (Host.dotGeneral (F := Ideal) (φ₁ := .f32) (φ₂ := .f32) dot_S32x64x112x112_S128x64_S32x112x112x128_1_1_023_0_n_n none
          (extractStridedSlice S32x64x112x112 ![0, 0, r, s] (val_main_v0 (F := Ideal) X) h0)
          (shapeCast S128x64 (extractStridedSlice S128x64x1x1 ![0, 0, r, s] w h1) shapeCasts_S128x64x1x1_S128x64))
        transposes_S32x112x112x128_S32x128x112x112_0_3_1_2 (ix4 n o i j)
      = tapAt X w n o i.val j.val d := by
  rw [ref_product]
  unfold tapAt
  refine Finset.sum_congr rfl fun c _ => congrArg₂ (· * ·) ?_ ?_
  · have hi := i.isLt
    have hj := j.isLt
    have hd := d.isLt
    refine (extractStridedSlice_apply _ _ _ _ (ix4 n c (⟨i.val + d.val / 3, by omega⟩ : Fin 114) (⟨j.val + d.val % 3, by omega⟩ : Fin 114)) fun a => ?_).trans
      (ref_padded X n c _ _)
    match a with
    | ⟨0, _⟩ => show n.val = 0 + n.val; omega
    | ⟨1, _⟩ => show c.val = 0 + c.val; omega
    | ⟨2, _⟩ => show i.val + d.val / 3 = r + i.val; omega
    | ⟨3, _⟩ => show j.val + d.val % 3 = s + j.val; omega
  · refine (shapeCast_apply _ _ _ (ix4 o c (0 : Fin 1) (0 : Fin 1)) ?_).trans
      (extractStridedSlice_apply _ _ _ _ (ix4 o c (tapRow d) (tapCol d)) fun a => ?_)
    · rewrite [Shape.rowMajor_val_four, Shape.rowMajor_val_two]
      show ((o.val * 64 + c.val) * 1 + 0) * 1 + 0 = o.val * 64 + c.val
      omega
    · match a with
      | ⟨0, _⟩ => show o.val = 0 + o.val; omega
      | ⟨1, _⟩ => show c.val = 0 + c.val; omega
      | ⟨2, _⟩ => show d.val / 3 = r + 0; omega
      | ⟨3, _⟩ => show d.val % 3 = s + 0; omega

/-- The reference's first result is the convolution. -/
theorem ref_first (X : Images) (w : Weights) (b : Biases) (n : Fin 32) (o : Fin 128) (i j : Fin 112) :
    val_main_v56 (F := Ideal) X w b (ix4 n o i j) = convAt X w (b (ix1 o)) n o i.val j.val := by
  unfold convAt
  rw [sum_nine,
    ← ref_tap X w 0 (r := 0) (s := 0) rfl rfl slices_S32x64x114x114_S32x64x112x112_0_0_0_0 slices_S128x64x3x3_S128x64x1x1_0_0_0_0,
    ← ref_tap X w 1 (r := 0) (s := 1) rfl rfl slices_S32x64x114x114_S32x64x112x112_0_0_0_1 slices_S128x64x3x3_S128x64x1x1_0_0_0_1,
    ← ref_tap X w 2 (r := 0) (s := 2) rfl rfl slices_S32x64x114x114_S32x64x112x112_0_0_0_2 slices_S128x64x3x3_S128x64x1x1_0_0_0_2,
    ← ref_tap X w 3 (r := 1) (s := 0) rfl rfl slices_S32x64x114x114_S32x64x112x112_0_0_1_0 slices_S128x64x3x3_S128x64x1x1_0_0_1_0,
    ← ref_tap X w 4 (r := 1) (s := 1) rfl rfl slices_S32x64x114x114_S32x64x112x112_0_0_1_1 slices_S128x64x3x3_S128x64x1x1_0_0_1_1,
    ← ref_tap X w 5 (r := 1) (s := 2) rfl rfl slices_S32x64x114x114_S32x64x112x112_0_0_1_2 slices_S128x64x3x3_S128x64x1x1_0_0_1_2,
    ← ref_tap X w 6 (r := 2) (s := 0) rfl rfl slices_S32x64x114x114_S32x64x112x112_0_0_2_0 slices_S128x64x3x3_S128x64x1x1_0_0_2_0,
    ← ref_tap X w 7 (r := 2) (s := 1) rfl rfl slices_S32x64x114x114_S32x64x112x112_0_0_2_1 slices_S128x64x3x3_S128x64x1x1_0_0_2_1,
    ← ref_tap X w 8 (r := 2) (s := 2) rfl rfl slices_S32x64x114x114_S32x64x112x112_0_0_2_2 slices_S128x64x3x3_S128x64x1x1_0_0_2_2]
  have hb : val_main_v55 (F := Ideal) b (ix4 n o i j) = b (ix1 o) := by
    rw [val_main_v55_apply, val_main_v54_apply]
    exact congrArg b (funext fun a => match a with | ⟨0, _⟩ => rfl)
  rw [← hb]
  rfl

/-- The reference computes its second result from the replaced weights as it does the first from the given ones. -/
theorem ref_second (X : Images) (w : Weights) (b : Biases) (h : S16.Idx → EReal) :
    val_main_v229 (F := Ideal) X w b h = val_main_v56 (F := Ideal) X (val_main_v172 (F := Ideal) w h) b := rfl

end Cert.Value

end
-- ==== Proof.RefHash.lean ====
module
public import proofs.«01_k».proof.Proof.Gen.ReferenceIdeal.Read
public import proofs.«01_k».proof.Proof.Spec
public import Idealize.ShloMosaic.Lib.IdealHost

/-!
The weights from which the reference computes its second result: each weight replaced by its bucket's value.
-/

@[expose] public section

set_option maxRecDepth 16384

noncomputable section

namespace Cert.Value

open Cert.ReferenceIdeal Cert.ReferenceIdeal.Gen Cert.ReferenceIdeal.Read Idealize.ShloMosaic Idealize.ShloMosaic.ValueIdx

/-- The reference's least weight. -/
theorem ref_least (w : Weights) (i : S_.Idx) : val_main_v58 (F := Ideal) w i = least w := by
  unfold val_main_v58 least
  rw [Host.reduce_eq_fold]
  rw [Finset.filter_true_of_mem fun x _ => Subsingleton.elim _ _]
  rfl

/-- The reference's greatest weight. -/
theorem ref_greatest (w : Weights) (i : S_.Idx) : val_main_v57 (F := Ideal) w i = greatest w := by
  unfold val_main_v57 greatest
  rw [Host.reduce_eq_fold]
  rw [Finset.filter_true_of_mem fun x _ => Subsingleton.elim _ _]
  rfl

/-- The reference's width of a bucket. -/
theorem ref_width (w : Weights) (i : S_.Idx) : val_main_v60 (F := Ideal) w i = width w := by
  have e : val_main_v59 (F := Ideal) w i = greatest w - least w := by
    rw [← ref_least w i, ← ref_greatest w i]; rfl
  unfold val_main_v60
  rw [hostDivf_apply, e]
  rfl

/-- One of the reference's buckets. -/
theorem ref_level (w : Weights) (h : S16.Idx → EReal) (v : Weights) (k : Fin 16) {b : BitVec 32} (hb : levels k = b)
    (hs : S16.Slices ![k.val] S1) (i : S128x64x3x3.Idx) :
    select
        (cmpf (F := Ideal) (φ := .f32) .ogt v
          (broadcastInDim S128x64x3x3 ![] bcast_S_S128x64x3x3
            (addf (F := Ideal) (φ := .f32) (mulf (F := Ideal) (φ := .f32) (constant (F := Ideal) S_ .f32 b) (val_main_v60 (F := Ideal) w))
              (val_main_v58 (F := Ideal) w))))
        (broadcastInDim S128x64x3x3 ![] bcast_S_S128x64x3x3 (shapeCast S_ (extractStridedSlice S1 ![k.val] h hs) shapeCasts_S1_S_))
        v i
      = bucket (least w) (width w) (fun k => h (ix1 k)) k (v i) := by
  have e1 : broadcastInDim S128x64x3x3 ![] bcast_S_S128x64x3x3
      (addf (F := Ideal) (φ := .f32) (mulf (F := Ideal) (φ := .f32) (constant (F := Ideal) S_ .f32 b) (val_main_v60 (F := Ideal) w))
        (val_main_v58 (F := Ideal) w)) i = Ideal.ofBits .f32 (levels k) * width w + least w := by
    refine (broadcastInDim_apply _ bcast_S_S128x64x3x3 _ i ix0 (fun a => a.elim0)).trans ?_
    rw [hb, ← ref_width w ix0, ← ref_least w ix0]
    rfl
  have e2 : broadcastInDim S128x64x3x3 ![] bcast_S_S128x64x3x3
      (shapeCast S_ (extractStridedSlice S1 ![k.val] h hs) shapeCasts_S1_S_) i = h (ix1 k) := by
    refine (broadcastInDim_apply _ bcast_S_S128x64x3x3 _ i ix0 (fun a => a.elim0)).trans ?_
    have h1 : (S1.rowMajor (ix1 (0 : Fin 1))).val < 1 := (S1.rowMajor (ix1 (0 : Fin 1))).isLt
    have h0 : (S_.rowMajor ix0).val < 1 := (S_.rowMajor ix0).isLt
    refine (shapeCast_apply _ _ _ (ix1 (0 : Fin 1)) ((Nat.lt_one_iff.mp h1).trans (Nat.lt_one_iff.mp h0).symm)).trans ?_
    exact extractStridedSlice_apply _ _ _ _ _ (fun a => match a with | ⟨0, _⟩ => rfl)
  unfold bucket
  rw [select_apply, cmpf_apply, e1, e2]

/-- The reference's replaced weights. -/
theorem ref_hashed (w : Weights) (h : S16.Idx → EReal) :
    val_main_v172 (F := Ideal) w h = hashedWeights w (fun k => h (ix1 k)) := by
  funext i
  unfold hashedWeights hashed
  refine (ref_level w h (val_main_v165 (F := Ideal) w h) 15 rfl slices_S16_S1_15 i).trans (congrArg _ ?_)
  refine (ref_level w h (val_main_v158 (F := Ideal) w h) 14 rfl slices_S16_S1_14 i).trans (congrArg _ ?_)
  refine (ref_level w h (val_main_v151 (F := Ideal) w h) 13 rfl slices_S16_S1_13 i).trans (congrArg _ ?_)
  refine (ref_level w h (val_main_v144 (F := Ideal) w h) 12 rfl slices_S16_S1_12 i).trans (congrArg _ ?_)
  refine (ref_level w h (val_main_v137 (F := Ideal) w h) 11 rfl slices_S16_S1_11 i).trans (congrArg _ ?_)
  refine (ref_level w h (val_main_v130 (F := Ideal) w h) 10 rfl slices_S16_S1_10 i).trans (congrArg _ ?_)
  refine (ref_level w h (val_main_v123 (F := Ideal) w h) 9 rfl slices_S16_S1_9 i).trans (congrArg _ ?_)
  refine (ref_level w h (val_main_v116 (F := Ideal) w h) 8 rfl slices_S16_S1_8 i).trans (congrArg _ ?_)
  refine (ref_level w h (val_main_v109 (F := Ideal) w h) 7 rfl slices_S16_S1_7 i).trans (congrArg _ ?_)
  refine (ref_level w h (val_main_v102 (F := Ideal) w h) 6 rfl slices_S16_S1_6 i).trans (congrArg _ ?_)
  refine (ref_level w h (val_main_v95 (F := Ideal) w h) 5 rfl slices_S16_S1_5 i).trans (congrArg _ ?_)
  refine (ref_level w h (val_main_v88 (F := Ideal) w h) 4 rfl slices_S16_S1_4 i).trans (congrArg _ ?_)
  refine (ref_level w h (val_main_v81 (F := Ideal) w h) 3 rfl slices_S16_S1_3 i).trans (congrArg _ ?_)
  refine (ref_level w h (val_main_v74 (F := Ideal) w h) 2 rfl slices_S16_S1_2 i).trans (congrArg _ ?_)
  refine (ref_level w h (val_main_v67 (F := Ideal) w h) 1 rfl slices_S16_S1_1 i).trans (congrArg _ ?_)
  refine (ref_level w h w 0 rfl slices_S16_S1_0 i).trans ?_
  rfl

end Cert.Value

end
-- ==== Proof.Equation.lean ====
module
public import proofs.«01_k».proof.Proof.Frames
public import proofs.«01_k».proof.Proof.KernelValue
public import proofs.«01_k».proof.Proof.RefValue
public import proofs.«01_k».proof.Proof.RefHash

/-!
The idealized kernel and the idealized reference end with the same two results.
-/

@[expose] public section

set_option maxRecDepth 16384

noncomputable section

namespace Cert.Proof

open Idealize.ShloMosaic Idealize.SL.Sem Idealize.ShloMosaic.ValueIdx
open Idealize.ShloMosaic.TcCoe Cert.Value

variable (m : (ℓ : Loc Cert.KernelIdeal.nD Cert.KernelIdeal.τ Cert.KernelIdeal.sig) → Buf (Elt Ideal) ℓ) (c : Dev Cert.KernelIdeal.nD)

/-- The kernel's first result is the reference's, of the kernel's arguments. -/
theorem first_eq : Cert.ReferenceIdeal.Read.val_main_v56 (F := Ideal) (argX m c) (argW m c) (argB m c)
    = (Cert.KernelIdeal.Whole.W4 m c Cert.KernelIdeal.main_v7 : Cert.KernelIdeal.S32x128x112x112.Idx → EReal) := by
  funext k
  obtain ⟨n, o, i, j, rfl⟩ : ∃ (n : Fin 32) (o : Fin 128) (i j : Fin 112), k = ix4 n o i j := ⟨k 0, k 1, k 2, k 3, eq_ix4 k⟩
  rw [kernel_first, ref_first]

/-- The kernel's second result is the reference's, of the kernel's arguments. -/
theorem second_eq : Cert.ReferenceIdeal.Read.val_main_v229 (F := Ideal) (argX m c) (argW m c) (argB' m c) (argH m c)
    = (Cert.KernelIdeal.Whole.W4 m c Cert.KernelIdeal.main_v8 : Cert.KernelIdeal.S32x128x112x112.Idx → EReal) := by
  funext k
  obtain ⟨n, o, i, j, rfl⟩ : ∃ (n : Fin 32) (o : Fin 128) (i j : Fin 112), k = ix4 n o i j := ⟨k 0, k 1, k 2, k 3, eq_ix4 k⟩
  rw [kernel_second, ref_second, ref_first, ref_hashed]

/-- From memories that agree on the arguments, both programs end with the same two results. -/
theorem algebraic : Cert.algebraic_KernelIdeal_ReferenceIdeal := fun m g m' g' _ hm =>
  ⟨fun c => Cert.KernelIdeal.Whole.W4 m c Cert.KernelIdeal.main_v7, fun c => Cert.KernelIdeal.Whole.W4 m c Cert.KernelIdeal.main_v8,
    (θ_run Cert.KernelIdeal.defs _ _).mono (fun _ h c => ⟨(h.1 c).1.1, (h.1 c).1.2, (h.1 c).2⟩) (kernel_run m g),
    (θ_run Cert.ReferenceIdeal.defs _ _).mono (fun r h c => by
      obtain ⟨e0, e1, e2, e3, e4⟩ := hm c
      refine ⟨(h c).1.trans ?_, (h c).2.1.trans ?_, (h c).2.2⟩
      · refine (Cert.ReferenceIdeal.Read.val_main_v56_eq (F := Ideal) (StableHlo.launchContents m' c)).trans (Eq.trans ?_ (first_eq m c))
        show Cert.ReferenceIdeal.Read.val_main_v56 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) = _
        rw [e0, e1, e2]
      · refine (Cert.ReferenceIdeal.Read.val_main_v229_eq (F := Ideal) (StableHlo.launchContents m' c)).trans (Eq.trans ?_ (second_eq m c))
        show Cert.ReferenceIdeal.Read.val_main_v229 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) = _
        rw [e0, e1, e3, e4])
      (Cert.ReferenceIdeal.Value.run (F := Ideal) m' g')⟩

end Cert.Proof

end
-- ==== Proof.lean ====
/-
  The certificate's claim: the program, its idealization and the idealized reference run and keep their arguments, the
  idealization is the program, and the idealized kernel ends with the reference's two results.
-/
module

public import proofs.«01_k».proof.Defs
public import proofs.«01_k».proof.Proof.Frames
public import proofs.«01_k».proof.Proof.Equation

@[expose] public section

noncomputable section

namespace Cert.Proof

/-- Every claim of the certificate. -/
theorem claim : Cert.Claim :=
  ⟨Cert.Kernel.Gen.facts, Cert.KernelIdeal.Gen.facts, Cert.ReferenceIdeal.Gen.facts, frame_kernel, frame_kernelIdeal, frame_reference, trivial, algebraic⟩

end Cert.Proof

end
